-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_logits [hPre_finite_logits : Cert.Pre_finite_logits.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_logits.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_logits [hPre_finite_logits : Cert.Pre_finite_logits.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_logits.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_router [hPre_finite_router : Cert.Pre_finite_router.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_router.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_router [hPre_finite_router : Cert.Pre_finite_router.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_router.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite_logits [hKernel6Ideal : Cert.Kernel6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_logits m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite_logits [hReference6Ideal : Cert.Reference6Ideal.Facts] [hPre_finite_logits : Cert.Pre_finite_logits.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_logits m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite_router [hKernel7Ideal : Cert.Kernel7Ideal.Facts] [hPre_finite_router : Cert.Pre_finite_router.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_router m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite_router [hReference7Ideal : Cert.Reference7Ideal.Facts] [hPre_finite_router : Cert.Pre_finite_router.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_router m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_logits [hKernel6Ideal : Cert.Kernel6Ideal.Facts] [hReference6Ideal : Cert.Reference6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_logits m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal_pre_finite_router [hKernel7Ideal : Cert.Kernel7Ideal.Facts] [hReference7Ideal : Cert.Reference7Ideal.Facts] [hPre_finite_router : Cert.Pre_finite_router.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_router m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v36_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36_2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v11_2)) (v1 : (c : Dev Cert.Kernel8Ideal.nD) → Buf (Elt Ideal) ((c.tc : Thread Cert.Kernel8Ideal.nD Cert.Kernel8Ideal.τ).loc Cert.Kernel8Ideal.main_v11_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11_2) = v0 c
          ∧ r.2.mem ((c.tc : Thread Cert.Kernel8Ideal.nD Cert.Kernel8Ideal.τ).loc Cert.Kernel8Ideal.main_v11_3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v45) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_logits : Cert.Pre_finite_logits.Facts) (hPre_finite_router : Cert.Pre_finite_router.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_logits (hKernel6Ideal := hKernel6Ideal) (hPre_finite_logits := hPre_finite_logits)
    ∧ quiescent_Reference6Ideal (hReference6Ideal := hReference6Ideal)
    ∧ quiescent_Reference6Ideal_pre_finite_logits (hReference6Ideal := hReference6Ideal) (hPre_finite_logits := hPre_finite_logits)
    ∧ quiescent_Kernel7 (hKernel7 := hKernel7)
    ∧ quiescent_Kernel7Ideal (hKernel7Ideal := hKernel7Ideal)
    ∧ quiescent_Kernel7Ideal_pre_finite_router (hKernel7Ideal := hKernel7Ideal) (hPre_finite_router := hPre_finite_router)
    ∧ quiescent_Reference7Ideal (hReference7Ideal := hReference7Ideal)
    ∧ quiescent_Reference7Ideal_pre_finite_router (hReference7Ideal := hReference7Ideal) (hPre_finite_router := hPre_finite_router)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_logits (hKernel6Ideal := hKernel6Ideal) (hReference6Ideal := hReference6Ideal) (hPre_finite_logits := hPre_finite_logits)
    ∧ preserves_Kernel7_Kernel7Ideal
    ∧ algebraic_Kernel7Ideal_Reference7Ideal_pre_finite_router (hKernel7Ideal := hKernel7Ideal) (hReference7Ideal := hReference7Ideal) (hPre_finite_router := hPre_finite_router)
    ∧ preserves_Kernel8_Kernel8Ideal
    ∧ algebraic_Kernel8Ideal_Reference8Ideal (hKernel8Ideal := hKernel8Ideal) (hReference8Ideal := hReference8Ideal)
-- ==== Pre_finite_logits.lean ====
abbrev S128x8192 : Shape := ⟨2, ![128, 8192]⟩
abbrev S_ : Shape := ⟨0, ![]⟩

class Facts : Prop where
  bcast_S_S128x8192 : S_.BroadcastsInDim S128x8192 (![] : Fin 0 → Fin S128x8192.rank)

variable [Facts]

def fn {F : FTy → Type} [FloatOps F] (main_arg0 : FVec F S128x8192 .f32) : IVec S128x8192 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  main_v2
-- ==== Pre_finite_router.lean ====
abbrev S8192x1024 : Shape := ⟨2, ![8192, 1024]⟩
abbrev S8192x4096 : Shape := ⟨2, ![8192, 4096]⟩
abbrev S1x8192x2048 : Shape := ⟨3, ![1, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S_ : Shape := ⟨0, ![]⟩
abbrev S1x2048x1x1 : Shape := ⟨4, ![1, 2048, 1, 1]⟩
abbrev S1x2048x4x1 : Shape := ⟨4, ![1, 2048, 4, 1]⟩

class Facts : Prop where
  bcast_S_S1x2048 : S_.BroadcastsInDim S1x2048 (![] : Fin 0 → Fin S1x2048.rank)
  bcast_S1x2048_S1x2048x1x1_0_1 : S1x2048.BroadcastsInDim S1x2048x1x1 (![0, 1] : Fin 2 → Fin S1x2048x1x1.rank)
  bcast_S_S1x2048x4 : S_.BroadcastsInDim S1x2048x4 (![] : Fin 0 → Fin S1x2048x4.rank)
  bcast_S1x2048x4_S1x2048x4x1_0_1_2 : S1x2048x4.BroadcastsInDim S1x2048x4x1 (![0, 1, 2] : Fin 3 → Fin S1x2048x4x1.rank)
  bcast_S1x2048x1x1_S1x2048x4x1_0_1_2_3 : S1x2048x1x1.BroadcastsInDim S1x2048x4x1 (![0, 1, 2, 3] : Fin 4 → Fin S1x2048x4x1.rank)
  bcast_S_S1x2048x4x8 : S_.BroadcastsInDim S1x2048x4x8 (![] : Fin 0 → Fin S1x2048x4x8.rank)
  bcast_S1x2048x4x1_S1x2048x4x8_0_1_2_3 : S1x2048x4x1.BroadcastsInDim S1x2048x4x8 (![0, 1, 2, 3] : Fin 4 → Fin S1x2048x4x8.rank)

variable [Facts]

def fn {F : FTy → Type} [FloatOps F] (main_arg0 : FVec F S8192x1024 .bf16) (main_arg1 : FVec F S8192x1024 .bf16) (main_arg2 : FVec F S8192x4096 .f32) (main_arg3 : FVec F S1x8192x2048 .f32) (main_arg4 : FVec F S1x1024x2048 .f32) (main_arg5 : FVec F S1x1024x2048 .f32) (main_arg6 : FVec F S1x2048x2048 .f32) (main_arg7 : FVec F S1x2048 .f32) (main_arg8 : FVec F S1x2048x4 .f32) (main_arg9 : FVec F S1x4 .f32) (main_arg10 : FVec F S1x2048x4x8 .f32) (main_arg11 : FVec F S1x4x8 .f32) : IVec S1x2048x4x8 1 :=
  let main_v0 : FVec F S1x2048 .f32 := Host.absf main_arg7
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : IVec S1x2048x1x1 1 := broadcastInDim S1x2048x1x1 ![0, 1] bcast_S1x2048_S1x2048x1x1_0_1 main_v2
  let main_v4 : FVec F S1x2048x4 .f32 := Host.absf main_arg8
  let main_cst_0 : FVec F S_ .f32 := constant S_ .f32 0x7F800000#32
  let main_v5 : FVec F S1x2048x4 .f32 := broadcastInDim S1x2048x4 ![] bcast_S_S1x2048x4 main_cst_0
  let main_v6 : IVec S1x2048x4 1 := cmpf .olt main_v4 main_v5
  let main_v7 : IVec S1x2048x4x1 1 := broadcastInDim S1x2048x4x1 ![0, 1, 2] bcast_S1x2048x4_S1x2048x4x1_0_1_2 main_v6
  let main_v8 : IVec S1x2048x4x1 1 := broadcastInDim S1x2048x4x1 ![0, 1, 2, 3] bcast_S1x2048x1x1_S1x2048x4x1_0_1_2_3 main_v3
  let main_v9 : IVec S1x2048x4x1 1 := andi main_v8 main_v7
  let main_v10 : FVec F S1x2048x4x8 .f32 := Host.absf main_arg10
  let main_cst_1 : FVec F S_ .f32 := constant S_ .f32 0x7F800000#32
  let main_v11 : FVec F S1x2048x4x8 .f32 := broadcastInDim S1x2048x4x8 ![] bcast_S_S1x2048x4x8 main_cst_1
  let main_v12 : IVec S1x2048x4x8 1 := cmpf .olt main_v10 main_v11
  let main_v13 : IVec S1x2048x4x8 1 := broadcastInDim S1x2048x4x8 ![0, 1, 2, 3] bcast_S1x2048x4x1_S1x2048x4x8_0_1_2_3 main_v9
  let main_v14 : IVec S1x2048x4x8 1 := andi main_v13 main_v12
  main_v14
-- ==== Kernel.lean ====
abbrev S8192x2048 : Shape := ⟨2, ![8192, 2048]⟩
abbrev S1x2048x11296 : Shape := ⟨3, ![1, 2048, 11296]⟩
abbrev S2048x11296 : Shape := ⟨2, ![2048, 11296]⟩
abbrev S11296x2048 : Shape := ⟨2, ![11296, 2048]⟩
abbrev S8192x4096 : Shape := ⟨2, ![8192, 4096]⟩
abbrev S1024x2048 : Shape := ⟨2, ![1024, 2048]⟩
abbrev S1024x1024 : Shape := ⟨2, ![1024, 1024]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S2048x11296, .f32⟩
  | .hbm, ⟨3, _⟩ => ⟨S11296x2048, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S1x2048x11296 : Shape := ⟨3, ![1, 2048, 11296]⟩
abbrev S2048x11296 : Shape := ⟨2, ![2048, 11296]⟩
abbrev S8192x11296 : Shape := ⟨2, ![8192, 11296]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S8192x2048, .f32⟩
  | .hbm, ⟨3, _⟩ => ⟨S2048x11296, .f32⟩
  | .hbm, ⟨4, _⟩ => ⟨S8192x11296, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel2.lean ====
abbrev S8192x2048 : Shape := ⟨2, ![8192, 2048]⟩
abbrev S1x2048x11296 : Shape := ⟨3, ![1, 2048, 11296]⟩
abbrev S2048x11296 : Shape := ⟨2, ![2048, 11296]⟩
abbrev S11296x2048 : Shape := ⟨2, ![11296, 2048]⟩
abbrev S8192x3072 : Shape := ⟨2, ![8192, 3072]⟩
abbrev S1024x2048 : Shape := ⟨2, ![1024, 2048]⟩
abbrev S1024x1024 : Shape := ⟨2, ![1024, 1024]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S2048x11296, .f32⟩
  | .hbm, ⟨3, _⟩ => ⟨S11296x2048, .f32⟩
  | .hbm, ⟨4, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c4112_i32 : BitVec 32 := 4112#32
  let arg0 : BitVec 32 := BitVec.ofNat 32 (i 0).val
  let c1024_i32 : BitVec 32 := 1024#32
  let v0 : BitVec 32 := Scalar.muli arg0 c1024_i32
  let v1 : BitVec 32 := Scalar.addi c4112_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4112_i32 : BitVec 32 := 4112#32
  let v1 : BitVec 32 := Scalar.addi c4112_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S1x2048x11296 : Shape := ⟨3, ![1, 2048, 11296]⟩
abbrev S2048x11296 : Shape := ⟨2, ![2048, 11296]⟩
abbrev S8192x11296 : Shape := ⟨2, ![8192, 11296]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S8192x2048, .f32⟩
  | .hbm, ⟨3, _⟩ => ⟨S2048x11296, .f32⟩
  | .hbm, ⟨4, _⟩ => ⟨S8192x11296, .f32⟩
  | .hbm, ⟨5, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8192x2048 : Shape := ⟨2, ![8192, 2048]⟩
abbrev S1x2048x11296 : Shape := ⟨3, ![1, 2048, 11296]⟩
abbrev S2048x11296 : Shape := ⟨2, ![2048, 11296]⟩
abbrev S11296x2048 : Shape := ⟨2, ![11296, 2048]⟩
abbrev S8192x4096 : Shape := ⟨2, ![8192, 4096]⟩
abbrev S1024x2048 : Shape := ⟨2, ![1024, 2048]⟩
abbrev S1024x1024 : Shape := ⟨2, ![1024, 1024]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S2048x11296, .f32⟩
  | .hbm, ⟨3, _⟩ => ⟨S11296x2048, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c7200_i32 : BitVec 32 := 7200#32
  let arg0 : BitVec 32 := BitVec.ofNat 32 (i 0).val
  let c1024_i32 : BitVec 32 := 1024#32
  let v0 : BitVec 32 := Scalar.muli arg0 c1024_i32
  let v1 : BitVec 32 := Scalar.addi c7200_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c7200_i32 : BitVec 32 := 7200#32
  let v1 : BitVec 32 := Scalar.addi c7200_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S1x2048x11296 : Shape := ⟨3, ![1, 2048, 11296]⟩
abbrev S2048x11296 : Shape := ⟨2, ![2048, 11296]⟩
abbrev S8192x11296 : Shape := ⟨2, ![8192, 11296]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11296, .f32⟩
  | .hbm, ⟨2, _⟩ => ⟨S8192x2048, .f32⟩
  | .hbm, ⟨3, _⟩ => ⟨S2048x11296, .f32⟩
  | .hbm, ⟨4, _⟩ => ⟨S8192x11296, .f32⟩
  | .hbm, ⟨5, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S1x8192x2048 : Shape := ⟨3, ![1, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S2048x4 : Shape := ⟨2, ![2048, 4]⟩
abbrev S2048x4x8 : Shape := ⟨3, ![2048, 4, 8]⟩
abbrev S4 : Shape := ⟨1, ![4]⟩
abbrev S4x8 : Shape := ⟨2, ![4, 8]⟩
abbrev S_ : Shape := ⟨0, ![]⟩
abbrev S2048x128 : Shape := ⟨2, ![2048, 128]⟩
abbrev S1 : Shape := ⟨1, ![1]⟩
abbrev S2048x32 : Shape := ⟨2, ![2048, 32]⟩
abbrev S1x2048x128 : Shape := ⟨3, ![1, 2048, 128]⟩
abbrev S2x2048x128 : Shape := ⟨3, ![2, 2048, 128]⟩
abbrev S128x1 : Shape := ⟨2, ![128, 1]⟩
abbrev S2 : Shape := ⟨1, ![2]⟩
abbrev S32 : Shape := ⟨1, ![32]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S128x8192 : Shape := ⟨2, ![128, 8192]⟩
abbrev S256x1024 : Shape := ⟨2, ![256, 1024]⟩
abbrev S256x2048 : Shape := ⟨2, ![256, 2048]⟩
abbrev S128x256 : Shape := ⟨2, ![128, 256]⟩
abbrev S256 : Shape := ⟨1, ![256]⟩
abbrev S256x1 : Shape := ⟨2, ![256, 1]⟩
abbrev S256x128 : Shape := ⟨2, ![256, 128]⟩

abbrev nBuf : Space → Nat
  | .hbm => 59
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S2048x4, .f32⟩
  | .hbm, ⟨13, _⟩ => ⟨S2048x4x8, .f32⟩
  | .hbm, ⟨14, _⟩ => ⟨S4, .f32⟩
  | .hbm, ⟨15, _⟩ => ⟨S4x8, .f32⟩
  | .hbm, ⟨16, _⟩ => ⟨S_, .f32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S2048x32, .f32⟩
  | .hbm, ⟨22, _⟩ => ⟨S_, .i32⟩
  | .hbm, ⟨23, _⟩ => ⟨S1, .i32⟩
  | .hbm, ⟨24, _⟩ => ⟨S2048x128, .f32⟩
  | .hbm, ⟨25, _⟩ => ⟨S2048x128, .bf16⟩
  | .hbm, ⟨26, _⟩ => ⟨S2048x128, .f32⟩
  | .hbm, ⟨27, _⟩ => ⟨S2048x128, .f32⟩
  | .hbm, ⟨28, _⟩ => ⟨S2048x128, .bf16⟩
  | .hbm, ⟨29, _⟩ => ⟨S1x2048x128, .bf16⟩
  | .hbm, ⟨30, _⟩ => ⟨S1x2048x128, .bf16⟩
  | .hbm, ⟨31, _⟩ => ⟨S2x2048x128, .bf16⟩
  | .hbm, ⟨32, _⟩ => ⟨S_, .f32⟩
  | .hbm, ⟨33, _⟩ => ⟨S128x1, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S128x1, .f32⟩
  | .hbm, ⟨40, _⟩ => ⟨S32, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S128x1, .f32⟩
  | .hbm, ⟨47, _⟩ => ⟨S8192x2048, .f32⟩
  | .hbm, ⟨48, _⟩ => ⟨S1024x2048, .f32⟩
  | .hbm, ⟨49, _⟩ => ⟨S1024x2048, .bf16⟩
  | .hbm, ⟨50, _⟩ => ⟨S1024x2048, .f32⟩
  | .hbm, ⟨51, _⟩ => ⟨S1024x2048, .bf16⟩
  | .hbm, ⟨52, _⟩ => ⟨S2048x2048, .f32⟩
  | .hbm, ⟨53, _⟩ => ⟨S2048x2048, .bf16⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S128x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2x2048x128, .bf16⟩
  | .local _ .vmem, ⟨15, _⟩ => ⟨S128x1, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S128x256, .f32⟩
  | .local _ .vmem, ⟨21, _⟩ => ⟨S128x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8192x1024 : Shape := ⟨2, ![8192, 1024]⟩
abbrev S8192x4096 : Shape := ⟨2, ![8192, 4096]⟩
abbrev S1x8192x2048 : Shape := ⟨3, ![1, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S8192x2048 : Shape := ⟨2, ![8192, 2048]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S1024x2048, .f32⟩
  | .hbm, ⟨16, _⟩ => ⟨S8192x2048, .f32⟩
  | .hbm, ⟨17, _⟩ => ⟨S8192x1024, .f32⟩
  | .hbm, ⟨18, _⟩ => ⟨S1024x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S8192x2048, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel5.lean ====
abbrev S1x8192x2048 : Shape := ⟨3, ![1, 8192, 2048]⟩
abbrev S1x2048 : Shape := ⟨2, ![1, 2048]⟩
abbrev S1x2048x11296 : Shape := ⟨3, ![1, 2048, 11296]⟩
abbrev S1x8 : Shape := ⟨2, ![1, 8]⟩
abbrev S8192x2048 : Shape := ⟨2, ![8192, 2048]⟩
abbrev S2048 : Shape := ⟨1, ![2048]⟩
abbrev S2048x11296 : Shape := ⟨2, ![2048, 11296]⟩
abbrev S11296x2048 : Shape := ⟨2, ![11296, 2048]⟩
abbrev S8 : Shape := ⟨1, ![8]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8x8192 : Shape := ⟨2, ![8, 8192]⟩
abbrev S256x2048 : Shape := ⟨2, ![256, 2048]⟩
abbrev S128x2048 : Shape := ⟨2, ![128, 2048]⟩
abbrev S256x128 : Shape := ⟨2, ![256, 128]⟩
abbrev S8x256 : Shape := ⟨2, ![8, 256]⟩
abbrev S256 : Shape := ⟨1, ![256]⟩
abbrev S256x1 : Shape := ⟨2, ![256, 1]⟩
abbrev S256x256 : Shape := ⟨2, ![256, 256]⟩
abbrev S128x256 : Shape := ⟨2, ![128, 256]⟩

abbrev nBuf : Space → Nat
  | .hbm => 24
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x11296, .f32⟩
  | .hbm, ⟨3, _⟩ => ⟨S1x8, .f32⟩
  | .hbm, ⟨4, _⟩ => ⟨S1x8, .f32⟩
  | .hbm, ⟨5, _⟩ => ⟨S8192x2048, .f32⟩
  | .hbm, ⟨6, _⟩ => ⟨S2048, .f32⟩
  | .hbm, ⟨7, _⟩ => ⟨S2048x11296, .f32⟩
  | .hbm, ⟨8, _⟩ => ⟨S11296x2048, .f32⟩
  | .hbm, ⟨9, _⟩ => ⟨S8, .f32⟩
  | .hbm, ⟨10, _⟩ => ⟨S8, .f32⟩
  | .hbm, ⟨11, _⟩ => ⟨S1x2048, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S8192x2048, .bf16⟩
  | .hbm, ⟨21, _⟩ => ⟨S8192x128, .f32⟩
  | .hbm, ⟨22, _⟩ => ⟨S8192x128, .f32⟩
  | .hbm, ⟨23, _⟩ => ⟨S8x8192, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S1x128, .f32⟩
  | .local _ .vmem, ⟨6, _⟩ => ⟨S1x128, .f32⟩
  | .local _ .vmem, ⟨7, _⟩ => ⟨S256x2048, .bf16⟩
  | .local _ .vmem, ⟨8, _⟩ => ⟨S256x2048, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x256, .f32⟩
  | .local _ .vmem, ⟨14, _⟩ => ⟨S8x256, .f32⟩
  | .local _ .vmem, ⟨15, _⟩ => ⟨S128x2048, .bf16⟩
  | .local _ .vmem, ⟨16, _⟩ => ⟨S128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_3 (i : grid0.Coords) : Fin 2 → Nat :=
  let arg0 : BitVec 32 := BitVec.ofNat 32 (i 0).val
  let c56_i32 : BitVec 32 := 56#32
  let c0_i32 : BitVec 32 := 0#32
  let c0_i32_0 : BitVec 32 := 0#32
  ![c56_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S1x8192x2048 : Shape := ⟨3, ![1, 8192, 2048]⟩
abbrev S1x2048 : Shape := ⟨2, ![1, 2048]⟩
abbrev S1x2048x11296 : Shape := ⟨3, ![1, 2048, 11296]⟩
abbrev S1x8 : Shape := ⟨2, ![1, 8]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11296 : Shape := ⟨2, ![2048, 11296]⟩
abbrev S8192x11296 : Shape := ⟨2, ![8192, 11296]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x11296, .f32⟩
  | .hbm, ⟨3, _⟩ => ⟨S1x8, .f32⟩
  | .hbm, ⟨4, _⟩ => ⟨S1x8, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .bf16⟩
  | .hbm, ⟨24, _⟩ => ⟨S2048x11296, .f32⟩
  | .hbm, ⟨25, _⟩ => ⟨S8192x11296, .f32⟩
  | .hbm, ⟨26, _⟩ => ⟨S8192x128, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel6.lean ====
abbrev S128x8192 : Shape := ⟨2, ![128, 8192]⟩
abbrev S8x8192 : Shape := ⟨2, ![8, 8192]⟩
abbrev S8192x128 : Shape := ⟨2, ![8192, 128]⟩
abbrev S8x128 : Shape := ⟨2, ![8, 128]⟩
abbrev S2x32x8192 : Shape := ⟨3, ![2, 32, 8192]⟩
abbrev S8192 : Shape := ⟨1, ![8192]⟩
abbrev S1x8192 : Shape := ⟨2, ![1, 8192]⟩
abbrev S126x8192 : Shape := ⟨2, ![126, 8192]⟩
abbrev S32x8192 : Shape := ⟨2, ![32, 8192]⟩
abbrev S1x32x8192 : Shape := ⟨3, ![1, 32, 8192]⟩
abbrev S256x256 : Shape := ⟨2, ![256, 256]⟩
abbrev S32x1 : Shape := ⟨2, ![32, 1]⟩
abbrev S1x32x256 : Shape := ⟨3, ![1, 32, 256]⟩
abbrev S32x256 : Shape := ⟨2, ![32, 256]⟩
abbrev S256 : Shape := ⟨1, ![256]⟩
abbrev S1x256 : Shape := ⟨2, ![1, 256]⟩
abbrev S32 : Shape := ⟨1, ![32]⟩
abbrev S32x32 : Shape := ⟨2, ![32, 32]⟩
abbrev S32x128 : Shape := ⟨2, ![32, 128]⟩
abbrev S128 : Shape := ⟨1, ![128]⟩
abbrev S1x128 : Shape := ⟨2, ![1, 128]⟩
abbrev S1x1 : Shape := ⟨2, ![1, 1]⟩
abbrev S1x32 : Shape := ⟨2, ![1, 32]⟩

abbrev nBuf : Space → Nat
  | .hbm => 4
  | .vmem => 5
  | .smem => 0
  | _ => 0

abbrev bufTy : (tb : Table) → Fin (tcTables nBuf tb) → BufTy
  | .hbm, ⟨0, _⟩ => ⟨S128x8192, .f32⟩
  | .hbm, ⟨1, _⟩ => ⟨S8x8192, .i32⟩
  | .hbm, ⟨2, _⟩ => ⟨S8192x128, .f32⟩
  | .hbm, ⟨3, _⟩ => ⟨S8x128, .i32⟩
  | .local _ .vmem, ⟨0, _⟩ => ⟨S128x8192, .f32⟩
  | .local _ .vmem, ⟨1, _⟩ => ⟨S8x8192, .i32⟩
  | .local _ .vmem, ⟨2, _⟩ => ⟨S8192x128, .f32⟩
  | .local _ .vmem, ⟨3, _⟩ => ⟨S8x128, .i32⟩
  | .local _ .vmem, ⟨4, _⟩ => ⟨S2x32x8192, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference6Ideal.lean ====
abbrev S128x8192 : Shape := ⟨2, ![128, 8192]⟩
abbrev S4x8192 : Shape := ⟨2, ![4, 8192]⟩
abbrev S8192x4 : Shape := ⟨2, ![8192, 4]⟩
abbrev S32x8192 : Shape := ⟨2, ![32, 8192]⟩
abbrev S8192x32 : Shape := ⟨2, ![8192, 32]⟩
abbrev S8192x4x8 : Shape := ⟨3, ![8192, 4, 8]⟩
abbrev S_ : Shape := ⟨0, ![]⟩
abbrev S8192 : Shape := ⟨1, ![8192]⟩
abbrev S8192x1 : Shape := ⟨2, ![8192, 1]⟩
abbrev S8192x1x1 : Shape := ⟨3, ![8192, 1, 1]⟩
abbrev S8192x1x8 : Shape := ⟨3, ![8192, 1, 8]⟩
abbrev S8192x1x8x1 : Shape := ⟨4, ![8192, 1, 8, 1]⟩
abbrev S1 : Shape := ⟨1, ![1]⟩
abbrev S1x1x1x1 : Shape := ⟨4, ![1, 1, 1, 1]⟩
abbrev S8192x8 : Shape := ⟨2, ![8192, 8]⟩
abbrev S8192x2 : Shape := ⟨2, ![8192, 2]⟩
abbrev S8192x128 : Shape := ⟨2, ![8192, 128]⟩

abbrev nBuf : Space → Nat
  | .hbm => 68
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S4x8192, .f32⟩
  | .hbm, ⟨2, _⟩ => ⟨S8192x4, .f32⟩
  | .hbm, ⟨3, _⟩ => ⟨S32x8192, .f32⟩
  | .hbm, ⟨4, _⟩ => ⟨S8192x32, .f32⟩
  | .hbm, ⟨5, _⟩ => ⟨S8192x4x8, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x4, .f32⟩
  | .hbm, ⟨13, _⟩ => ⟨S8192x4, .f32⟩
  | .hbm, ⟨14, _⟩ => ⟨S8192x4, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x4, .f32⟩
  | .hbm, ⟨19, _⟩ => ⟨S8192x4, .f32⟩
  | .hbm, ⟨20, _⟩ => ⟨S8192x1, .f32⟩
  | .hbm, ⟨21, _⟩ => ⟨S8192x1, .i32⟩
  | .hbm, ⟨22, _⟩ => ⟨S8192x1x1, .i32⟩
  | .hbm, ⟨23, _⟩ => ⟨S8192x1x8, .i32⟩
  | .hbm, ⟨24, _⟩ => ⟨S_, .i32⟩
  | .hbm, ⟨25, _⟩ => ⟨S8192x1x8, .i32⟩
  | .hbm, ⟨26, _⟩ => ⟨S8192x1x8, .i1⟩
  | .hbm, ⟨27, _⟩ => ⟨S_, .i32⟩
  | .hbm, ⟨28, _⟩ => ⟨S8192x1x8, .i32⟩
  | .hbm, ⟨29, _⟩ => ⟨S8192x1x8, .i32⟩
  | .hbm, ⟨30, _⟩ => ⟨S8192x1x8, .i32⟩
  | .hbm, ⟨31, _⟩ => ⟨S8192x1x8x1, .i32⟩
  | .hbm, ⟨32, _⟩ => ⟨S1, .i32⟩
  | .hbm, ⟨33, _⟩ => ⟨S_, .i32⟩
  | .hbm, ⟨34, _⟩ => ⟨S8192x1x8x1, .i32⟩
  | .hbm, ⟨35, _⟩ => ⟨S8192x1x8x1, .i1⟩
  | .hbm, ⟨36, _⟩ => ⟨S1x1x1x1, .i32⟩
  | .hbm, ⟨37, _⟩ => ⟨S8192x1x8x1, .i32⟩
  | .hbm, ⟨38, _⟩ => ⟨S8192x1x8x1, .i1⟩
  | .hbm, ⟨39, _⟩ => ⟨S8192x1x8x1, .i1⟩
  | .hbm, ⟨40, _⟩ => ⟨S_, .i1⟩
  | .hbm, ⟨41, _⟩ => ⟨S8192x1x8, .i1⟩
  | .hbm, ⟨42, _⟩ => ⟨S8192x1x8, .f32⟩
  | .hbm, ⟨43, _⟩ => ⟨S_, .f32⟩
  | .hbm, ⟨44, _⟩ => ⟨S8192x1x8, .f32⟩
  | .hbm, ⟨45, _⟩ => ⟨S8192x1x8, .f32⟩
  | .hbm, ⟨46, _⟩ => ⟨S8192x8, .f32⟩
  | .hbm, ⟨47, _⟩ => ⟨S8192x2, .f32⟩
  | .hbm, ⟨48, _⟩ => ⟨S8192x2, .i32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1, .f32⟩
  | .hbm, ⟨55, _⟩ => ⟨S8192x2, .f32⟩
  | .hbm, ⟨56, _⟩ => ⟨S8192x2, .f32⟩
  | .hbm, ⟨57, _⟩ => ⟨S8192x2, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2, .f32⟩
  | .hbm, ⟨62, _⟩ => ⟨S8192x2, .f32⟩
  | .hbm, ⟨63, _⟩ => ⟨S8192x2, .f32⟩
  | .hbm, ⟨64, _⟩ => ⟨S8192x2, .f32⟩
  | .hbm, ⟨65, _⟩ => ⟨S_, .i32⟩
  | .hbm, ⟨66, _⟩ => ⟨S_, .f32⟩
  | .hbm, ⟨67, _⟩ => ⟨S8192x128, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_values : Ref sig .tc := ⟨.hbm, 20, rfl⟩
abbrev main_indices : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev main_values_2 : Ref sig .tc := ⟨.hbm, 47, rfl⟩
abbrev main_indices_3 : Ref sig .tc := ⟨.hbm, 48, rfl⟩
abbrev main_cst_4 : Ref sig .tc := ⟨.hbm, 49, rfl⟩
abbrev main_v20 : Ref sig .tc := ⟨.hbm, 50, rfl⟩
abbrev main_cst_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c : Ref sig .tc := ⟨.hbm, 65, rfl⟩
abbrev main_call1_v0 : Ref sig .tc := ⟨.hbm, 66, rfl⟩
abbrev main_v33 : Ref sig .tc := ⟨.hbm, 67, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S1x8192x2048 : Shape := ⟨3, ![1, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S2048x4 : Shape := ⟨2, ![2048, 4]⟩
abbrev S2048x4x8 : Shape := ⟨3, ![2048, 4, 8]⟩
abbrev S4 : Shape := ⟨1, ![4]⟩
abbrev S4x8 : Shape := ⟨2, ![4, 8]⟩
abbrev S_ : Shape := ⟨0, ![]⟩
abbrev S2048x128 : Shape := ⟨2, ![2048, 128]⟩
abbrev S1 : Shape := ⟨1, ![1]⟩
abbrev S2048x32 : Shape := ⟨2, ![2048, 32]⟩
abbrev S1x2048x128 : Shape := ⟨3, ![1, 2048, 128]⟩
abbrev S2x2048x128 : Shape := ⟨3, ![2, 2048, 128]⟩
abbrev S128x1 : Shape := ⟨2, ![128, 1]⟩
abbrev S2 : Shape := ⟨1, ![2]⟩
abbrev S32 : Shape := ⟨1, ![32]⟩
abbrev S8192x2048 : Shape := ⟨2, ![8192, 2048]⟩
abbrev S1024x2048 : Shape := ⟨2, ![1024, 2048]⟩
abbrev S2048x2048 : Shape := ⟨2, ![2048, 2048]⟩
abbrev S2048 : Shape := ⟨1, ![2048]⟩
abbrev S128x8192 : Shape := ⟨2, ![128, 8192]⟩
abbrev S256x1024 : Shape := ⟨2, ![256, 1024]⟩
abbrev S256x2048 : Shape := ⟨2, ![256, 2048]⟩
abbrev S128x256 : Shape := ⟨2, ![128, 256]⟩
abbrev S256 : Shape := ⟨1, ![256]⟩
abbrev S256x1 : Shape := ⟨2, ![256, 1]⟩
abbrev S256x128 : Shape := ⟨2, ![256, 128]⟩

abbrev nBuf : Space → Nat
  | .hbm => 59
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S2048x4, .f32⟩
  | .hbm, ⟨13, _⟩ => ⟨S2048x4x8, .f32⟩
  | .hbm, ⟨14, _⟩ => ⟨S4, .f32⟩
  | .hbm, ⟨15, _⟩ => ⟨S4x8, .f32⟩
  | .hbm, ⟨16, _⟩ => ⟨S_, .f32⟩
  | .hbm, ⟨17, _⟩ => ⟨S2048x128, .f32⟩
  | .hbm, ⟨18, _⟩ => ⟨S_, .i32⟩
  | .hbm, ⟨19, _⟩ => ⟨S1, .i32⟩
  | .hbm, ⟨20, _⟩ => ⟨S2048x128, .f32⟩
  | .hbm, ⟨21, _⟩ => ⟨S2048x32, .f32⟩
  | .hbm, ⟨22, _⟩ => ⟨S_, .i32⟩
  | .hbm, ⟨23, _⟩ => ⟨S1, .i32⟩
  | .hbm, ⟨24, _⟩ => ⟨S2048x128, .f32⟩
  | .hbm, ⟨25, _⟩ => ⟨S2048x128, .bf16⟩
  | .hbm, ⟨26, _⟩ => ⟨S2048x128, .f32⟩
  | .hbm, ⟨27, _⟩ => ⟨S2048x128, .f32⟩
  | .hbm, ⟨28, _⟩ => ⟨S2048x128, .bf16⟩
  | .hbm, ⟨29, _⟩ => ⟨S1x2048x128, .bf16⟩
  | .hbm, ⟨30, _⟩ => ⟨S1x2048x128, .bf16⟩
  | .hbm, ⟨31, _⟩ => ⟨S2x2048x128, .bf16⟩
  | .hbm, ⟨32, _⟩ => ⟨S_, .f32⟩
  | .hbm, ⟨33, _⟩ => ⟨S128x1, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S128x1, .f32⟩
  | .hbm, ⟨40, _⟩ => ⟨S32, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S128x1, .f32⟩
  | .hbm, ⟨47, _⟩ => ⟨S8192x2048, .f32⟩
  | .hbm, ⟨48, _⟩ => ⟨S1024x2048, .f32⟩
  | .hbm, ⟨49, _⟩ => ⟨S1024x2048, .bf16⟩
  | .hbm, ⟨50, _⟩ => ⟨S1024x2048, .f32⟩
  | .hbm, ⟨51, _⟩ => ⟨S1024x2048, .bf16⟩
  | .hbm, ⟨52, _⟩ => ⟨S2048x2048, .f32⟩
  | .hbm, ⟨53, _⟩ => ⟨S2048x2048, .bf16⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S128x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2x2048x128, .bf16⟩
  | .local _ .vmem, ⟨15, _⟩ => ⟨S128x1, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S128x256, .f32⟩
  | .local _ .vmem, ⟨21, _⟩ => ⟨S128x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_v36_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8192x1024 : Shape := ⟨2, ![8192, 1024]⟩
abbrev S8192x4096 : Shape := ⟨2, ![8192, 4096]⟩
abbrev S1x8192x2048 : Shape := ⟨3, ![1, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x4x8 : Shape := ⟨4, ![1, 2048, 4, 8]⟩
abbrev S1x4x8 : Shape := ⟨3, ![1, 4, 8]⟩
abbrev S8192x2048 : Shape := ⟨2, ![8192, 2048]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩
abbrev S2048x4 : Shape := ⟨2, ![2048, 4]⟩
abbrev S8192x4 : Shape := ⟨2, ![8192, 4]⟩
abbrev S4 : Shape := ⟨1, ![4]⟩
abbrev S2048x4x8 : Shape := ⟨3, ![2048, 4, 8]⟩
abbrev S8192x4x8 : Shape := ⟨3, ![8192, 4, 8]⟩
abbrev S4x8 : Shape := ⟨2, ![4, 8]⟩
abbrev S4x8192 : Shape := ⟨2, ![4, 8192]⟩
abbrev S8x8192 : Shape := ⟨2, ![8, 8192]⟩
abbrev S8192x32 : Shape := ⟨2, ![8192, 32]⟩
abbrev S32x8192 : Shape := ⟨2, ![32, 8192]⟩
abbrev S120x8192 : Shape := ⟨2, ![120, 8192]⟩
abbrev S128x8192 : Shape := ⟨2, ![128, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .f32⟩
  | .hbm, ⟨3, _⟩ => ⟨S1x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x4, .f32⟩
  | .hbm, ⟨10, _⟩ => ⟨S1x2048x4x8, .f32⟩
  | .hbm, ⟨11, _⟩ => ⟨S1x4x8, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S1024x2048, .f32⟩
  | .hbm, ⟨16, _⟩ => ⟨S8192x2048, .f32⟩
  | .hbm, ⟨17, _⟩ => ⟨S8192x1024, .f32⟩
  | .hbm, ⟨18, _⟩ => ⟨S1024x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S8192x2048, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S2048x4, .f32⟩
  | .hbm, ⟨61, _⟩ => ⟨S8192x4, .f32⟩
  | .hbm, ⟨62, _⟩ => ⟨S4, .f32⟩
  | .hbm, ⟨63, _⟩ => ⟨S1x4, .f32⟩
  | .hbm, ⟨64, _⟩ => ⟨S8192x4, .f32⟩
  | .hbm, ⟨65, _⟩ => ⟨S8192x4, .f32⟩
  | .hbm, ⟨66, _⟩ => ⟨S2048x4x8, .f32⟩
  | .hbm, ⟨67, _⟩ => ⟨S8192x4x8, .f32⟩
  | .hbm, ⟨68, _⟩ => ⟨S4x8, .f32⟩
  | .hbm, ⟨69, _⟩ => ⟨S1x4x8, .f32⟩
  | .hbm, ⟨70, _⟩ => ⟨S8192x4x8, .f32⟩
  | .hbm, ⟨71, _⟩ => ⟨S8192x4x8, .f32⟩
  | .hbm, ⟨72, _⟩ => ⟨S4x8192, .f32⟩
  | .hbm, ⟨73, _⟩ => ⟨S_, .i32⟩
  | .hbm, ⟨74, _⟩ => ⟨S_, .f32⟩
  | .hbm, ⟨75, _⟩ => ⟨S8x8192, .f32⟩
  | .hbm, ⟨76, _⟩ => ⟨S8192x32, .f32⟩
  | .hbm, ⟨77, _⟩ => ⟨S32x8192, .f32⟩
  | .hbm, ⟨78, _⟩ => ⟨S_, .i32⟩
  | .hbm, ⟨79, _⟩ => ⟨S_, .f32⟩
  | .hbm, ⟨80, _⟩ => ⟨S120x8192, .f32⟩
  | .hbm, ⟨81, _⟩ => ⟨S128x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_call0_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_6 : Ref sig .tc := ⟨.hbm, 78, rfl⟩
abbrev main_call1_v0 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel8.lean ====
abbrev S1x8192x2048 : Shape := ⟨3, ![1, 8192, 2048]⟩
abbrev S1x2048 : Shape := ⟨2, ![1, 2048]⟩
abbrev S1x2048x11296 : Shape := ⟨3, ![1, 2048, 11296]⟩
abbrev S1x8 : Shape := ⟨2, ![1, 8]⟩
abbrev S8192x2048 : Shape := ⟨2, ![8192, 2048]⟩
abbrev S2048 : Shape := ⟨1, ![2048]⟩
abbrev S2048x11296 : Shape := ⟨2, ![2048, 11296]⟩
abbrev S11296x2048 : Shape := ⟨2, ![11296, 2048]⟩
abbrev S8 : Shape := ⟨1, ![8]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8x8192 : Shape := ⟨2, ![8, 8192]⟩
abbrev S256x2048 : Shape := ⟨2, ![256, 2048]⟩
abbrev S128x2048 : Shape := ⟨2, ![128, 2048]⟩
abbrev S256x128 : Shape := ⟨2, ![256, 128]⟩
abbrev S8x256 : Shape := ⟨2, ![8, 256]⟩
abbrev S256 : Shape := ⟨1, ![256]⟩
abbrev S256x1 : Shape := ⟨2, ![256, 1]⟩
abbrev S256x256 : Shape := ⟨2, ![256, 256]⟩
abbrev S128x256 : Shape := ⟨2, ![128, 256]⟩

abbrev nBuf : Space → Nat
  | .hbm => 24
  | .vmem => 17
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x11296, .f32⟩
  | .hbm, ⟨3, _⟩ => ⟨S1x8, .f32⟩
  | .hbm, ⟨4, _⟩ => ⟨S1x8, .f32⟩
  | .hbm, ⟨5, _⟩ => ⟨S8192x2048, .f32⟩
  | .hbm, ⟨6, _⟩ => ⟨S2048, .f32⟩
  | .hbm, ⟨7, _⟩ => ⟨S2048x11296, .f32⟩
  | .hbm, ⟨8, _⟩ => ⟨S11296x2048, .f32⟩
  | .hbm, ⟨9, _⟩ => ⟨S8, .f32⟩
  | .hbm, ⟨10, _⟩ => ⟨S8, .f32⟩
  | .hbm, ⟨11, _⟩ => ⟨S1x2048, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S8192x2048, .bf16⟩
  | .hbm, ⟨21, _⟩ => ⟨S8192x128, .f32⟩
  | .hbm, ⟨22, _⟩ => ⟨S8192x128, .f32⟩
  | .hbm, ⟨23, _⟩ => ⟨S8x8192, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S1x128, .f32⟩
  | .local _ .vmem, ⟨6, _⟩ => ⟨S1x128, .f32⟩
  | .local _ .vmem, ⟨7, _⟩ => ⟨S256x2048, .bf16⟩
  | .local _ .vmem, ⟨8, _⟩ => ⟨S256x2048, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x256, .f32⟩
  | .local _ .vmem, ⟨14, _⟩ => ⟨S8x256, .f32⟩
  | .local _ .vmem, ⟨15, _⟩ => ⟨S128x2048, .bf16⟩
  | .local _ .vmem, ⟨16, _⟩ => ⟨S128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_3 (i : grid0.Coords) : Fin 2 → Nat :=
  let arg0 : BitVec 32 := BitVec.ofNat 32 (i 0).val
  let c56_i32 : BitVec 32 := 56#32
  let c0_i32 : BitVec 32 := 0#32
  let c0_i32_0 : BitVec 32 := 0#32
  ![c56_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S1x8192x2048 : Shape := ⟨3, ![1, 8192, 2048]⟩
abbrev S1x2048 : Shape := ⟨2, ![1, 2048]⟩
abbrev S1x2048x11296 : Shape := ⟨3, ![1, 2048, 11296]⟩
abbrev S1x8 : Shape := ⟨2, ![1, 8]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x11296 : Shape := ⟨2, ![2048, 11296]⟩
abbrev S8192x11296 : Shape := ⟨2, ![8192, 11296]⟩
abbrev S8192x120 : Shape := ⟨2, ![8192, 120]⟩
abbrev S8192x8 : Shape := ⟨2, ![8192, 8]⟩
abbrev S8192x112 : Shape := ⟨2, ![8192, 112]⟩
abbrev S8 : Shape := ⟨1, ![8]⟩
abbrev S112 : Shape := ⟨1, ![112]⟩
abbrev S1x112 : Shape := ⟨2, ![1, 112]⟩
abbrev S112x8192 : Shape := ⟨2, ![112, 8192]⟩
abbrev S112x128x64 : Shape := ⟨3, ![112, 128, 64]⟩
abbrev S112x128x1 : Shape := ⟨3, ![112, 128, 1]⟩
abbrev S8x8192 : Shape := ⟨2, ![8, 8192]⟩
abbrev S8192x128 : Shape := ⟨2, ![8192, 128]⟩

abbrev nBuf : Space → Nat
  | .hbm => 79
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x11296, .f32⟩
  | .hbm, ⟨3, _⟩ => ⟨S1x8, .f32⟩
  | .hbm, ⟨4, _⟩ => ⟨S1x8, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x11296, .f32⟩
  | .hbm, ⟨24, _⟩ => ⟨S8192x11296, .f32⟩
  | .hbm, ⟨25, _⟩ => ⟨S8192x120, .f32⟩
  | .hbm, ⟨26, _⟩ => ⟨S8192x8, .f32⟩
  | .hbm, ⟨27, _⟩ => ⟨S8192x112, .f32⟩
  | .hbm, ⟨28, _⟩ => ⟨S8, .f32⟩
  | .hbm, ⟨29, _⟩ => ⟨S_, .i32⟩
  | .hbm, ⟨30, _⟩ => ⟨S_, .f32⟩
  | .hbm, ⟨31, _⟩ => ⟨S112, .f32⟩
  | .hbm, ⟨32, _⟩ => ⟨S8, .f32⟩
  | .hbm, ⟨33, _⟩ => ⟨S_, .i32⟩
  | .hbm, ⟨34, _⟩ => ⟨S_, .f32⟩
  | .hbm, ⟨35, _⟩ => ⟨S112, .f32⟩
  | .hbm, ⟨36, _⟩ => ⟨S8192x8, .f32⟩
  | .hbm, ⟨37, _⟩ => ⟨S8192x8, .f32⟩
  | .hbm, ⟨38, _⟩ => ⟨S_, .f32⟩
  | .hbm, ⟨39, _⟩ => ⟨S8192x8, .f32⟩
  | .hbm, ⟨40, _⟩ => ⟨S8192x8, .f32⟩
  | .hbm, ⟨41, _⟩ => ⟨S_, .f32⟩
  | .hbm, ⟨42, _⟩ => ⟨S8192x8, .f32⟩
  | .hbm, ⟨43, _⟩ => ⟨S8192x8, .f32⟩
  | .hbm, ⟨44, _⟩ => ⟨S112, .f32⟩
  | .hbm, ⟨45, _⟩ => ⟨S112, .f32⟩
  | .hbm, ⟨46, _⟩ => ⟨S1x112, .f32⟩
  | .hbm, ⟨47, _⟩ => ⟨S8192x112, .f32⟩
  | .hbm, ⟨48, _⟩ => ⟨S8192x112, .f32⟩
  | .hbm, ⟨49, _⟩ => ⟨S_, .f32⟩
  | .hbm, ⟨50, _⟩ => ⟨S8192x112, .f32⟩
  | .hbm, ⟨51, _⟩ => ⟨S8192x112, .f32⟩
  | .hbm, ⟨52, _⟩ => ⟨S8192x112, .f32⟩
  | .hbm, ⟨53, _⟩ => ⟨S8192x112, .f32⟩
  | .hbm, ⟨54, _⟩ => ⟨S8192x112, .i1⟩
  | .hbm, ⟨55, _⟩ => ⟨S8192x112, .f32⟩
  | .hbm, ⟨56, _⟩ => ⟨S8192x112, .f32⟩
  | .hbm, ⟨57, _⟩ => ⟨S8192x112, .f32⟩
  | .hbm, ⟨58, _⟩ => ⟨S8192x112, .f32⟩
  | .hbm, ⟨59, _⟩ => ⟨S8192x112, .f32⟩
  | .hbm, ⟨60, _⟩ => ⟨S8192x112, .f32⟩
  | .hbm, ⟨61, _⟩ => ⟨S8192x112, .f32⟩
  | .hbm, ⟨62, _⟩ => ⟨S8192x112, .f32⟩
  | .hbm, ⟨63, _⟩ => ⟨S1x112, .f32⟩
  | .hbm, ⟨64, _⟩ => ⟨S8192x112, .f32⟩
  | .hbm, ⟨65, _⟩ => ⟨S8192x112, .f32⟩
  | .hbm, ⟨66, _⟩ => ⟨S112x8192, .f32⟩
  | .hbm, ⟨67, _⟩ => ⟨S112x128x64, .f32⟩
  | .hbm, ⟨68, _⟩ => ⟨S_, .f32⟩
  | .hbm, ⟨69, _⟩ => ⟨S_, .f32⟩
  | .hbm, ⟨70, _⟩ => ⟨S112x128x64, .f32⟩
  | .hbm, ⟨71, _⟩ => ⟨S112x128x1, .f32⟩
  | .hbm, ⟨72, _⟩ => ⟨S112x128x64, .f32⟩
  | .hbm, ⟨73, _⟩ => ⟨S112x8192, .f32⟩
  | .hbm, ⟨74, _⟩ => ⟨S8x8192, .f32⟩
  | .hbm, ⟨75, _⟩ => ⟨S8192x8, .f32⟩
  | .hbm, ⟨76, _⟩ => ⟨S112x8192, .f32⟩
  | .hbm, ⟨77, _⟩ => ⟨S8192x112, .f32⟩
  | .hbm, ⟨78, _⟩ => ⟨S8192x128, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_call0_cst : Ref sig .tc := ⟨.hbm, 68, rfl⟩
abbrev main_call3_call0_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Proof.ProjShared.lean ====
/- What the three projections share: the entry of one projection as a sum, and the two steps of the argument that do not
   depend on which columns of the weights are taken. -/
module

public import Idealize.ShloMosaic.Lib.Pipeline.ValueKit
public import Idealize.ShloMosaic.Lib.Pipeline.ValueKit.Held
public import Idealize.ShloMosaic.Lib.Pipeline.ReadBack

@[expose] public section

noncomputable section

open Idealize.ShloMosaic

namespace Cert.Proj

/-- Row `r` of the activations against column `c` of the weights. -/
def rowDot (X : FVec Ideal ⟨2, ![8192, 2048]⟩ .bf16) (W : FVec Ideal ⟨3, ![1, 2048, 11296]⟩ .f32) (r : Fin 8192)
    (c : Fin 11296) : EReal :=
  ∑ k : Fin 2048, X (ix2 r k) * W (ix3 0 k c)

/-- An entry of a block that is a product of a block of rows with a block of transposed columns, where the one block's
    row is a row of the activations and the other block's row a column of the weights. -/
theorem block_entry (X : FVec Ideal ⟨2, ![8192, 2048]⟩ .bf16) (W : FVec Ideal ⟨3, ![1, 2048, 11296]⟩ .f32)
    (x : FVec Ideal ⟨2, ![1024, 2048]⟩ .bf16) (s : FVec Ideal ⟨2, ![1024, 2048]⟩ .bf16) (a b : Fin 1024) (r : Fin 8192)
    (c : Fin 11296) (hx : ∀ k, x (ix2 a k) = X (ix2 r k)) (hs : ∀ k, s (ix2 b k) = W (ix3 0 k c)) :
    (∑ k : Fin 2048, x (ix2 a k) * s (ix2 b k)) = rowDot X W r c :=
  Fin.sum_fin_congr fun k => congrArg₂ (fun u v : EReal => u * v) (hx k) (hs k)

end Cert.Proj
-- ==== Proof.ProjA.lean ====
/- The projection onto columns 0 to 4095 of the weights: what the run leaves in the result array. -/
module

public import proofs.«01_k».proof.Proof.Gen.KernelIdeal.Value
public import proofs.«01_k».proof.Proof.Gen.ReferenceIdeal.Run
public import proofs.«01_k».proof.Proof.ProjShared

@[expose] public section

set_option maxRecDepth 16384

noncomputable section

open Idealize.ShloMosaic Idealize.ShloMosaic.TcCoe Idealize.SL.Sem
open Idealize.ShloMosaic.Pipeline (Dat)

namespace Cert.KernelIdeal.Proj
open Cert.KernelIdeal Cert.KernelIdeal.Gen

variable (m : (ℓ : Loc nD τ sig) → Buf (Elt Ideal) ℓ)

/-- The block indices of the three windows at every point; the weight window's are element offsets. -/
theorem idx : ∀ t : Fin cfg0.N, win0_0.index t = ![t.val % 8, 0]
    ∧ win0_1.index t = ![1024 * (t.val / 8), 0] ∧ win0_2.index t = ![t.val % 8, t.val / 8]
    ∧ t.val / 8 < 4 :=
  (by decide +kernel : ∀ t : Fin grid0.N, _)

/-- Reading a whole scratch back after stores reads what the stores leave, element by element. -/
theorem readCov_whole (L : List (View.Piece (Elt Ideal) S1024x2048 .bf16)) (inb) :
    (View.whole cc0_scratch0).readCov L (Rect.unit (s := S1024x2048) ![0, 0] ![1024, 2048] inb).toLoadRect = View.canon L := by
  rw [View.readCov_eq_canon']
  funext j
  congr 1
  funext a
  apply Fin.ext
  match a with
  | ⟨0, _⟩ => show 0 + 1 * (j 0).val = (j 0).val; omega
  | ⟨1, _⟩ => show 0 + 1 * (j 1).val = (j 1).val; omega

/-- At the first point of a column tile the kernel fills the scratch with the tile's columns of the weights. -/
theorem store_A (c : Dev nD) (t : Fin cfg0.N) (h : t.val % 8 = 0) (y) :
    (outsAt0 m c t.val t.isLt).2 y = iblk m c 1 t y := by
  rw [outsAt0_A m c t h]
  frame_out
  canon_tiles x hx
  all_goals (open_payloads; pointwise; blk_ext)

/-- At the tile's other points the scratch stays. -/
theorem hold_B (c : Dev nD) (t : Fin cfg0.N) (h : ¬t.val % 8 = 0) (y) :
    (outsAt0 m c t.val t.isLt).2 y = (outsAt0 m c (t.val - 1) (Nat.lt_of_le_of_lt (Nat.sub_le _ _) t.isLt)).2 y := by
  rw [outsAt0_B m c t h]
  rfl

/-- So at every point the scratch holds the columns of the point's tile. -/
theorem scratch_eq (c : Dev nD) (t : Fin cfg0.N) (y) :
    (outsAt0 m c t.val t.isLt).2 y = iblk m c 1 ⟨8 * (t.val / 8), Pipeline.run_start_lt t⟩ y :=
  Pipeline.eq_of_write_hold_apply (fun n hn => (outsAt0 m c n hn).2) 8 (fun t => iblk m c 1 t)
    (store_A m c) (hold_B m c) t y

/-- The block written at a point: the point's rows against the scratch. -/
theorem out_eq (c : Dev nD) (t : Fin cfg0.N) :
    (outsAt0 m c t.val t.isLt).1 = k0_pay5 (iblk m c 0 t) ((outsAt0 m c t.val t.isLt).2) := by
  by_cases h : t.val % 8 = 0
  · rw [outsAt0_A m c t h]
    frame_out
    rw [readCov_whole]
  · rw [outsAt0_B m c t h]
    frame_out
    rw [Idealize.ShloMosaic.read_unread_whole]
    rfl

/-- The weight window's block at a point, read in the weights. -/
theorem wblk (c : Dev nD) (t : Fin cfg0.N) (y0 : Fin 1024) (y1 : Fin 2048) :
    iblk m c 1 t (ix2 y0 y1) = m ((c : Thread nD τ).loc main_arg1) (ix3 0 y1 ⟨1024 * (t.val / 8) + y0.val, by have := (idx t).2.2.2; omega⟩) := by
  have e0 : (((win0_1.blk t).view.emb (ix2 y0 y1) 0 : Fin _) : ℕ) = 1024 * (t.val / 8) + y0.val :=
    (win0_1.rect_emb_val_off t (ix2 y0 y1) 0).trans (by rw [(idx t).2.1]; rfl)
  have e1 : (((win0_1.blk t).view.emb (ix2 y0 y1) 1 : Fin _) : ℕ) = y1.val :=
    (win0_1.rect_emb_val_off t (ix2 y0 y1) 1).trans (by rw [(idx t).2.1]; exact Nat.zero_add _)
  blk_simp [iblk]
  entry_read
  pointwise
  refine congrArg (m ((c : Thread nD τ).loc main_arg1)) (funext fun a => Fin.ext ?_)
  match a with
  | ⟨0, _⟩ => rfl
  | ⟨1, _⟩ => exact e1
  | ⟨2, _⟩ => exact e0

/-- The row window's block at a point, read in the activations. -/
theorem hblk (c : Dev nD) (t : Fin cfg0.N) (y0 : Fin 1024) (y1 : Fin 2048) :
    iblk m c 0 t (ix2 y0 y1) = m ((c : Thread nD τ).loc main_arg0) (ix2 ⟨1024 * (t.val % 8) + y0.val, by omega⟩ y1) := by
  blk_ext [iblk, V, idx t]

/-- The product the kernel stores, entry by entry. -/
theorem payload (x w : Vec Ideal S1024x2048 _) (j : S1024x1024.Idx) :
    k0_pay5 (F := Ideal) x w j = ∑ k : Fin 2048, x (ix2 (j 0) k) * w (ix2 (j 1) k) := by
  pointwise [k0_pay5]

/-- What the run leaves in the result array. -/
theorem G2_eq (c : Dev nD) (i : S8192x4096.Idx) :
    Value.G2 m c i = Cert.Proj.rowDot (m ((c : Thread nD τ).loc main_arg0)) (m ((c : Thread nD τ).loc main_arg1)) (i 0)
      ⟨(i 1).val, by have : (i 1).val < 4096 := (i 1).isLt; omega⟩ := by
  have hi0 : (i 0).val < 8192 := (i 0).isLt
  have hi1 : (i 1).val < 4096 := (i 1).isLt
  have hp : Value.pt2Of i < cfg0.N := by
    show 1 * ((i 0).val / 1024 - 0) + 8 * ((i 1).val / 1024 - 0) < cfg0.N
    rw [show cfg0.N = 32 from N_0]; omega
  have hv : Value.pt2Of i = (i 0).val / 1024 + 8 * ((i 1).val / 1024) := by
    show 1 * ((i 0).val / 1024 - 0) + 8 * ((i 1).val / 1024 - 0) = _
    omega
  unfold Value.G2
  rw [dif_pos hp, ← Value.outsAt0_sweep m c _ hp]
  have e := out_eq m c ⟨Value.pt2Of i, hp⟩
  rw [e, payload]
  refine Cert.Proj.block_entry _ _ (iblk m c 0 ⟨Value.pt2Of i, hp⟩) _ _ _ _ _ (fun k => (hblk m c _ _ k).trans ?_)
    (fun k => (scratch_eq m c ⟨Value.pt2Of i, hp⟩ _).trans ((wblk m c _ _ k).trans ?_))
  · refine congrArg (m ((c : Thread nD τ).loc main_arg0)) (funext fun a => Fin.ext ?_)
    match a with
    | ⟨0, _⟩ =>
      show 1024 * (Value.pt2Of i % 8) + (i 0).val % 1024 = (i 0).val
      rw [hv]; omega
    | ⟨1, _⟩ => rfl
  · refine congrArg (m ((c : Thread nD τ).loc main_arg1)) (funext fun a => Fin.ext ?_)
    match a with
    | ⟨0, _⟩ => rfl
    | ⟨1, _⟩ => rfl
    | ⟨2, _⟩ =>
      show 1024 * (8 * (Value.pt2Of i / 8) / 8) + (i 1).val % 1024 = (i 1).val
      rw [hv]; omega

end Cert.KernelIdeal.Proj
-- ==== Proof.ProjB.lean ====
/- The projection onto columns 4112 to 7183 of the weights: what the run leaves in the result array. -/
module

public import proofs.«01_k».proof.Proof.Gen.Kernel2Ideal.Value
public import proofs.«01_k».proof.Proof.Gen.Reference2Ideal.Run
public import proofs.«01_k».proof.Proof.ProjShared

@[expose] public section

set_option maxRecDepth 16384

noncomputable section

open Idealize.ShloMosaic Idealize.ShloMosaic.TcCoe Idealize.SL.Sem
open Idealize.ShloMosaic.Pipeline (Dat)

namespace Cert.Kernel2Ideal.Proj
open Cert.Kernel2Ideal Cert.Kernel2Ideal.Gen

variable (m : (ℓ : Loc nD τ sig) → Buf (Elt Ideal) ℓ)

/-- The block indices of the three windows at every point; the weight window's are element offsets. -/
theorem idx : ∀ t : Fin cfg0.N, win0_0.index t = ![t.val % 8, 0]
    ∧ win0_1.index t = ![4112 + 1024 * (t.val / 8), 0] ∧ win0_2.index t = ![t.val % 8, t.val / 8]
    ∧ t.val / 8 < 3 :=
  (by decide +kernel : ∀ t : Fin grid0.N, _)

/-- Reading a whole scratch back after stores reads what the stores leave, element by element. -/
theorem readCov_whole (L : List (View.Piece (Elt Ideal) S1024x2048 .bf16)) (inb) :
    (View.whole cc0_scratch0).readCov L (Rect.unit (s := S1024x2048) ![0, 0] ![1024, 2048] inb).toLoadRect = View.canon L := by
  rw [View.readCov_eq_canon']
  funext j
  congr 1
  funext a
  apply Fin.ext
  match a with
  | ⟨0, _⟩ => show 0 + 1 * (j 0).val = (j 0).val; omega
  | ⟨1, _⟩ => show 0 + 1 * (j 1).val = (j 1).val; omega

/-- At the first point of a column tile the kernel fills the scratch with the tile's columns of the weights. -/
theorem store_A (c : Dev nD) (t : Fin cfg0.N) (h : t.val % 8 = 0) (y) :
    (outsAt0 m c t.val t.isLt).2 y = iblk m c 1 t y := by
  rw [outsAt0_A m c t h]
  frame_out
  canon_tiles x hx
  all_goals (open_payloads; pointwise; blk_ext)

/-- At the tile's other points the scratch stays. -/
theorem hold_B (c : Dev nD) (t : Fin cfg0.N) (h : ¬t.val % 8 = 0) (y) :
    (outsAt0 m c t.val t.isLt).2 y = (outsAt0 m c (t.val - 1) (Nat.lt_of_le_of_lt (Nat.sub_le _ _) t.isLt)).2 y := by
  rw [outsAt0_B m c t h]
  rfl

/-- So at every point the scratch holds the columns of the point's tile. -/
theorem scratch_eq (c : Dev nD) (t : Fin cfg0.N) (y) :
    (outsAt0 m c t.val t.isLt).2 y = iblk m c 1 ⟨8 * (t.val / 8), Pipeline.run_start_lt t⟩ y :=
  Pipeline.eq_of_write_hold_apply (fun n hn => (outsAt0 m c n hn).2) 8 (fun t => iblk m c 1 t)
    (store_A m c) (hold_B m c) t y

/-- The block written at a point: the point's rows against the scratch. -/
theorem out_eq (c : Dev nD) (t : Fin cfg0.N) :
    (outsAt0 m c t.val t.isLt).1 = k0_pay5 (iblk m c 0 t) ((outsAt0 m c t.val t.isLt).2) := by
  by_cases h : t.val % 8 = 0
  · rw [outsAt0_A m c t h]
    frame_out
    rw [readCov_whole]
  · rw [outsAt0_B m c t h]
    frame_out
    rw [Idealize.ShloMosaic.read_unread_whole]
    rfl

/-- The weight window's block at a point, read in the weights. -/
theorem wblk (c : Dev nD) (t : Fin cfg0.N) (y0 : Fin 1024) (y1 : Fin 2048) :
    iblk m c 1 t (ix2 y0 y1) = m ((c : Thread nD τ).loc main_arg1) (ix3 0 y1 ⟨4112 + 1024 * (t.val / 8) + y0.val, by have := (idx t).2.2.2; omega⟩) := by
  have e0 : (((win0_1.blk t).view.emb (ix2 y0 y1) 0 : Fin _) : ℕ) = 4112 + 1024 * (t.val / 8) + y0.val :=
    (win0_1.rect_emb_val_off t (ix2 y0 y1) 0).trans (by rw [(idx t).2.1]; rfl)
  have e1 : (((win0_1.blk t).view.emb (ix2 y0 y1) 1 : Fin _) : ℕ) = y1.val :=
    (win0_1.rect_emb_val_off t (ix2 y0 y1) 1).trans (by rw [(idx t).2.1]; exact Nat.zero_add _)
  blk_simp [iblk]
  entry_read
  pointwise
  refine congrArg (m ((c : Thread nD τ).loc main_arg1)) (funext fun a => Fin.ext ?_)
  match a with
  | ⟨0, _⟩ => rfl
  | ⟨1, _⟩ => exact e1
  | ⟨2, _⟩ => exact e0

/-- The row window's block at a point, read in the activations. -/
theorem hblk (c : Dev nD) (t : Fin cfg0.N) (y0 : Fin 1024) (y1 : Fin 2048) :
    iblk m c 0 t (ix2 y0 y1) = m ((c : Thread nD τ).loc main_arg0) (ix2 ⟨1024 * (t.val % 8) + y0.val, by omega⟩ y1) := by
  blk_ext [iblk, V, idx t]

/-- The product the kernel stores, entry by entry. -/
theorem payload (x w : Vec Ideal S1024x2048 _) (j : S1024x1024.Idx) :
    k0_pay5 (F := Ideal) x w j = ∑ k : Fin 2048, x (ix2 (j 0) k) * w (ix2 (j 1) k) := by
  pointwise [k0_pay5]

/-- What the run leaves in the result array. -/
theorem G2_eq (c : Dev nD) (i : S8192x3072.Idx) :
    Value.G2 m c i = Cert.Proj.rowDot (m ((c : Thread nD τ).loc main_arg0)) (m ((c : Thread nD τ).loc main_arg1)) (i 0)
      ⟨4112 + (i 1).val, by have : (i 1).val < 3072 := (i 1).isLt; omega⟩ := by
  have hi0 : (i 0).val < 8192 := (i 0).isLt
  have hi1 : (i 1).val < 3072 := (i 1).isLt
  have hp : Value.pt2Of i < cfg0.N := by
    show 1 * ((i 0).val / 1024 - 0) + 8 * ((i 1).val / 1024 - 0) < cfg0.N
    rw [show cfg0.N = 24 from N_0]; omega
  have hv : Value.pt2Of i = (i 0).val / 1024 + 8 * ((i 1).val / 1024) := by
    show 1 * ((i 0).val / 1024 - 0) + 8 * ((i 1).val / 1024 - 0) = _
    omega
  unfold Value.G2
  rw [dif_pos hp, ← Value.outsAt0_sweep m c _ hp]
  have e := out_eq m c ⟨Value.pt2Of i, hp⟩
  rw [e, payload]
  refine Cert.Proj.block_entry _ _ (iblk m c 0 ⟨Value.pt2Of i, hp⟩) _ _ _ _ _ (fun k => (hblk m c _ _ k).trans ?_)
    (fun k => (scratch_eq m c ⟨Value.pt2Of i, hp⟩ _).trans ((wblk m c _ _ k).trans ?_))
  · refine congrArg (m ((c : Thread nD τ).loc main_arg0)) (funext fun a => Fin.ext ?_)
    match a with
    | ⟨0, _⟩ =>
      show 1024 * (Value.pt2Of i % 8) + (i 0).val % 1024 = (i 0).val
      rw [hv]; omega
    | ⟨1, _⟩ => rfl
  · refine congrArg (m ((c : Thread nD τ).loc main_arg1)) (funext fun a => Fin.ext ?_)
    match a with
    | ⟨0, _⟩ => rfl
    | ⟨1, _⟩ => rfl
    | ⟨2, _⟩ =>
      show 4112 + 1024 * (8 * (Value.pt2Of i / 8) / 8) + (i 1).val % 1024 = 4112 + (i 1).val
      rw [hv]; omega

end Cert.Kernel2Ideal.Proj
-- ==== Proof.ProjMix.lean ====
/- The projection onto columns 7200 to 11295 of the weights: what the run leaves in the result array. -/
module

public import proofs.«01_k».proof.Proof.Gen.Kernel3Ideal.Value
public import proofs.«01_k».proof.Proof.Gen.Reference3Ideal.Run
public import proofs.«01_k».proof.Proof.ProjShared

@[expose] public section

set_option maxRecDepth 16384

noncomputable section

open Idealize.ShloMosaic Idealize.ShloMosaic.TcCoe Idealize.SL.Sem
open Idealize.ShloMosaic.Pipeline (Dat)

namespace Cert.Kernel3Ideal.Proj
open Cert.Kernel3Ideal Cert.Kernel3Ideal.Gen

variable (m : (ℓ : Loc nD τ sig) → Buf (Elt Ideal) ℓ)

/-- The block indices of the three windows at every point; the weight window's are element offsets. -/
theorem idx : ∀ t : Fin cfg0.N, win0_0.index t = ![t.val % 8, 0]
    ∧ win0_1.index t = ![7200 + 1024 * (t.val / 8), 0] ∧ win0_2.index t = ![t.val % 8, t.val / 8]
    ∧ t.val / 8 < 4 :=
  (by decide +kernel : ∀ t : Fin grid0.N, _)

/-- Reading a whole scratch back after stores reads what the stores leave, element by element. -/
theorem readCov_whole (L : List (View.Piece (Elt Ideal) S1024x2048 .bf16)) (inb) :
    (View.whole cc0_scratch0).readCov L (Rect.unit (s := S1024x2048) ![0, 0] ![1024, 2048] inb).toLoadRect = View.canon L := by
  rw [View.readCov_eq_canon']
  funext j
  congr 1
  funext a
  apply Fin.ext
  match a with
  | ⟨0, _⟩ => show 0 + 1 * (j 0).val = (j 0).val; omega
  | ⟨1, _⟩ => show 0 + 1 * (j 1).val = (j 1).val; omega

/-- At the first point of a column tile the kernel fills the scratch with the tile's columns of the weights. -/
theorem store_A (c : Dev nD) (t : Fin cfg0.N) (h : t.val % 8 = 0) (y) :
    (outsAt0 m c t.val t.isLt).2 y = iblk m c 1 t y := by
  rw [outsAt0_A m c t h]
  frame_out
  canon_tiles x hx
  all_goals (open_payloads; pointwise; blk_ext)

/-- At the tile's other points the scratch stays. -/
theorem hold_B (c : Dev nD) (t : Fin cfg0.N) (h : ¬t.val % 8 = 0) (y) :
    (outsAt0 m c t.val t.isLt).2 y = (outsAt0 m c (t.val - 1) (Nat.lt_of_le_of_lt (Nat.sub_le _ _) t.isLt)).2 y := by
  rw [outsAt0_B m c t h]
  rfl

/-- So at every point the scratch holds the columns of the point's tile. -/
theorem scratch_eq (c : Dev nD) (t : Fin cfg0.N) (y) :
    (outsAt0 m c t.val t.isLt).2 y = iblk m c 1 ⟨8 * (t.val / 8), Pipeline.run_start_lt t⟩ y :=
  Pipeline.eq_of_write_hold_apply (fun n hn => (outsAt0 m c n hn).2) 8 (fun t => iblk m c 1 t)
    (store_A m c) (hold_B m c) t y

/-- The block written at a point: the point's rows against the scratch. -/
theorem out_eq (c : Dev nD) (t : Fin cfg0.N) :
    (outsAt0 m c t.val t.isLt).1 = k0_pay5 (iblk m c 0 t) ((outsAt0 m c t.val t.isLt).2) := by
  by_cases h : t.val % 8 = 0
  · rw [outsAt0_A m c t h]
    frame_out
    rw [readCov_whole]
  · rw [outsAt0_B m c t h]
    frame_out
    rw [Idealize.ShloMosaic.read_unread_whole]
    rfl

/-- The weight window's block at a point, read in the weights. -/
theorem wblk (c : Dev nD) (t : Fin cfg0.N) (y0 : Fin 1024) (y1 : Fin 2048) :
    iblk m c 1 t (ix2 y0 y1) = m ((c : Thread nD τ).loc main_arg1) (ix3 0 y1 ⟨7200 + 1024 * (t.val / 8) + y0.val, by have := (idx t).2.2.2; omega⟩) := by
  have e0 : (((win0_1.blk t).view.emb (ix2 y0 y1) 0 : Fin _) : ℕ) = 7200 + 1024 * (t.val / 8) + y0.val :=
    (win0_1.rect_emb_val_off t (ix2 y0 y1) 0).trans (by rw [(idx t).2.1]; rfl)
  have e1 : (((win0_1.blk t).view.emb (ix2 y0 y1) 1 : Fin _) : ℕ) = y1.val :=
    (win0_1.rect_emb_val_off t (ix2 y0 y1) 1).trans (by rw [(idx t).2.1]; exact Nat.zero_add _)
  blk_simp [iblk]
  entry_read
  pointwise
  refine congrArg (m ((c : Thread nD τ).loc main_arg1)) (funext fun a => Fin.ext ?_)
  match a with
  | ⟨0, _⟩ => rfl
  | ⟨1, _⟩ => exact e1
  | ⟨2, _⟩ => exact e0

/-- The row window's block at a point, read in the activations. -/
theorem hblk (c : Dev nD) (t : Fin cfg0.N) (y0 : Fin 1024) (y1 : Fin 2048) :
    iblk m c 0 t (ix2 y0 y1) = m ((c : Thread nD τ).loc main_arg0) (ix2 ⟨1024 * (t.val % 8) + y0.val, by omega⟩ y1) := by
  blk_ext [iblk, V, idx t]

/-- The product the kernel stores, entry by entry. -/
theorem payload (x w : Vec Ideal S1024x2048 _) (j : S1024x1024.Idx) :
    k0_pay5 (F := Ideal) x w j = ∑ k : Fin 2048, x (ix2 (j 0) k) * w (ix2 (j 1) k) := by
  pointwise [k0_pay5]

/-- What the run leaves in the result array. -/
theorem G2_eq (c : Dev nD) (i : S8192x4096.Idx) :
    Value.G2 m c i = Cert.Proj.rowDot (m ((c : Thread nD τ).loc main_arg0)) (m ((c : Thread nD τ).loc main_arg1)) (i 0)
      ⟨7200 + (i 1).val, by have : (i 1).val < 4096 := (i 1).isLt; omega⟩ := by
  have hi0 : (i 0).val < 8192 := (i 0).isLt
  have hi1 : (i 1).val < 4096 := (i 1).isLt
  have hp : Value.pt2Of i < cfg0.N := by
    show 1 * ((i 0).val / 1024 - 0) + 8 * ((i 1).val / 1024 - 0) < cfg0.N
    rw [show cfg0.N = 32 from N_0]; omega
  have hv : Value.pt2Of i = (i 0).val / 1024 + 8 * ((i 1).val / 1024) := by
    show 1 * ((i 0).val / 1024 - 0) + 8 * ((i 1).val / 1024 - 0) = _
    omega
  unfold Value.G2
  rw [dif_pos hp, ← Value.outsAt0_sweep m c _ hp]
  have e := out_eq m c ⟨Value.pt2Of i, hp⟩
  rw [e, payload]
  refine Cert.Proj.block_entry _ _ (iblk m c 0 ⟨Value.pt2Of i, hp⟩) _ _ _ _ _ (fun k => (hblk m c _ _ k).trans ?_)
    (fun k => (scratch_eq m c ⟨Value.pt2Of i, hp⟩ _).trans ((wblk m c _ _ k).trans ?_))
  · refine congrArg (m ((c : Thread nD τ).loc main_arg0)) (funext fun a => Fin.ext ?_)
    match a with
    | ⟨0, _⟩ =>
      show 1024 * (Value.pt2Of i % 8) + (i 0).val % 1024 = (i 0).val
      rw [hv]; omega
    | ⟨1, _⟩ => rfl
  · refine congrArg (m ((c : Thread nD τ).loc main_arg1)) (funext fun a => Fin.ext ?_)
    match a with
    | ⟨0, _⟩ => rfl
    | ⟨1, _⟩ => rfl
    | ⟨2, _⟩ =>
      show 7200 + 1024 * (8 * (Value.pt2Of i / 8) / 8) + (i 1).val % 1024 = 7200 + (i 1).val
      rw [hv]; omega

end Cert.Kernel3Ideal.Proj
-- ==== Proof.MergePoint.lean ====
/- The gated merge: the residual rows and their normalized rows as entries, and what the body computes at a point. -/
module

public import proofs.«01_k».proof.Proof.Gen.Kernel4Ideal.Value
public import Idealize.ShloMosaic.Lib.Pipeline.ValueKit

@[expose] public section

set_option maxRecDepth 16384

noncomputable section

open Idealize.ShloMosaic Idealize.ShloMosaic.TcCoe Idealize.SL.Sem

namespace Cert.Merge

/-- Entry `(r, c)` of the residual plus the projected gated sum of the two mixers' projections. -/
def x2 (oa ob : FVec Ideal ⟨2, ![8192, 1024]⟩ .bf16) (z : FVec Ideal ⟨2, ![8192, 4096]⟩ .f32)
    (x : FVec Ideal ⟨3, ![1, 8192, 2048]⟩ .f32) (woa wob : FVec Ideal ⟨3, ![1, 1024, 2048]⟩ .f32)
    (wo : FVec Ideal ⟨3, ![1, 2048, 2048]⟩ .f32) (r : Fin 8192) (c : Fin 2048) : EReal :=
  x (ix3 0 r c) + ∑ k : Fin 2048,
    (Ideal.div 1 (1 + Ideal.exp (0 - z (ix2 r ⟨k.val, by omega⟩))) * ∑ j : Fin 1024, oa (ix2 r j) * woa (ix3 0 j k) +
      Ideal.div 1 (1 + Ideal.exp (0 - z (ix2 r ⟨2048 + k.val, by omega⟩))) * ∑ j : Fin 1024, ob (ix2 r j) * wob (ix3 0 j k)) *
    wo (ix3 0 k c)

/-- Entry `c` of a row divided by its root mean square, times the scale `s`. -/
def normed (row : Fin 2048 → EReal) (s : EReal) (c : Fin 2048) : EReal :=
  row c * Ideal.rsqrt (Ideal.div (∑ k : Fin 2048, row k * row k) (Ideal.ofBits FTy.f32 0x45000000#32) +
    Ideal.ofBits FTy.f32 0x358637BD#32) * s

end Cert.Merge

namespace Cert.Kernel4Ideal.Merge
open Cert.Kernel4Ideal Cert.Kernel4Ideal.Gen

variable (m : (ℓ : Loc nD τ sig) → Buf (Elt Ideal) ℓ)

/-- The block indices of the windows that the two results read or write, at every point. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0] ∧ win0_6.index t = ![0, 0]
    ∧ win0_7.index t = ![0, 0] ∧ win0_8.index t = ![0, 0] ∧ win0_11.index t = ![t.val, 0] ∧ win0_12.index t = ![t.val, 0]
    ∧ t.val < 32 :=
  (by decide +kernel : ∀ t : Fin grid0.N, _)

/-- The residual rows over the launched arrays. -/
abbrev X2 (c : Dev nD) (r : Fin 8192) (k : Fin 2048) : EReal :=
  Cert.Merge.x2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- What the body computes from a point's blocks, at row `a` of the block and column `b`. -/
theorem point_x2 (c : Dev nD) (t : Fin cfg0.N) (a : Fin 256) (b : Fin 2048) :
    k0_pay2 (iblk m c 0 t) (iblk m c 5 t) (iblk m c 1 t) (iblk m c 6 t) (iblk m c 2 t) (iblk m c 3 t) (iblk m c 4 t)
      (iblk m c 7 t) (ix2 a b)
    = X2 m c ⟨256 * t.val + a.val, by have := (idx t).2.2.2.2.2.2.2.2.2.2.2; omega⟩ b := by
  unfold X2 Cert.Merge.x2
  pointwise [k0_pay2]
  blk_point [iblk, V, idx t]

end Cert.Kernel4Ideal.Merge
-- ==== Proof.Merge.lean ====
/- The gated merge: the run's first two result arrays, entry by entry. -/
module

public import proofs.«01_k».proof.Proof.MergePoint

@[expose] public section

set_option maxRecDepth 16384

noncomputable section

open Idealize.ShloMosaic Idealize.ShloMosaic.TcCoe Idealize.SL.Sem

namespace Cert.Kernel4Ideal.Merge
open Cert.Kernel4Ideal Cert.Kernel4Ideal.Gen

variable (m : (ℓ : Loc nD τ sig) → Buf (Elt Ideal) ℓ)

/-- The residual rows that a point stores, at row `a` of its block. -/
theorem point (c : Dev nD) (t : Fin cfg0.N) (a : Fin 256) (b : Fin 2048) (r : Fin 8192) (hr : r.val = 256 * t.val + a.val) :
    k0_pay6 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 a b) = X2 m c r b := by
  unfold k0_pay6
  frame_out
  exact (point_x2 m c t a b).trans (congrArg (fun r => X2 m c r b) (Fin.ext hr.symm))

/-- The first result array after the run. -/
theorem final_x2 (c : Dev nD) : (dats m 0 c).arrAt 11 cfg0.N = fun i : S8192x2048.Idx => X2 m c (i 0) (i 1) := by
  refine (dats m 0 c).arrAt_eq_of_covers 11 _ (by decide +kernel) fun t _ y => ?_
  have e0 : (((win0_11.blk t).view.emb y 0 : Fin _) : ℕ) = 256 * t.val + (y 0).val :=
    (win0_11.rect_emb_val t y 0).trans (by rw [(idx t).2.2.2.2.2.2.2.2.2.1]; exact congrArg (· + _) (Nat.mul_comm _ _))
  have e1 : (((win0_11.blk t).view.emb y 1 : Fin _) : ℕ) = (y 1).val :=
    (win0_11.rect_emb_val t y 1).trans (by rw [(idx t).2.2.2.2.2.2.2.2.2.1]; exact (congrArg (· + _) (Nat.zero_mul _)).trans (Nat.zero_add _))
  blk_simp
  rw [after0_11]
  frame_out
  rw [eq_ix2 (n0 := 256) (n1 := 2048) y]
  refine (point m c t (y 0) (y 1) _ e0).trans (congrArg (X2 m c _) (Fin.ext e1.symm))

/-- What the body stores in the second result's block, given the block of residual rows. -/
theorem payload_h2 (x2 : Vec Ideal S256x2048 .f32) (nf : Vec Ideal S1x2048 .f32) (a : Fin 256) (b : Fin 2048) :
    k0_pay3 (F := Ideal) x2 nf (ix2 a b) = Cert.Merge.normed (fun k => x2 (ix2 a k)) (nf (ix2 0 b)) b := by
  unfold Cert.Merge.normed
  pointwise [k0_pay3]

/-- The scales' block at a point, read in the scales. -/
theorem scale (c : Dev nD) (t : Fin cfg0.N) (b : Fin 2048) :
    iblk m c 8 t (ix2 0 b) = m ((c : Thread nD τ).loc main_arg7) (ix2 0 b) := by
  blk_simp [iblk]
  entry_read
  pointwise
  blk_point [iblk, V, idx t]

/-- The second result array after the run. -/
theorem final_h2 (c : Dev nD) : (dats m 0 c).arrAt 12 cfg0.N = fun i : S8192x2048.Idx =>
    Cert.Merge.normed (X2 m c (i 0)) (m ((c : Thread nD τ).loc main_arg7) (ix2 0 (i 1))) (i 1) := by
  refine (dats m 0 c).arrAt_eq_of_covers 12 _ (by decide +kernel) fun t _ y => ?_
  have e0 : (((win0_12.blk t).view.emb y 0 : Fin _) : ℕ) = 256 * t.val + (y 0).val :=
    (win0_12.rect_emb_val t y 0).trans (by rw [(idx t).2.2.2.2.2.2.2.2.2.2.1]; exact congrArg (· + _) (Nat.mul_comm _ _))
  have e1 : ((win0_12.blk t).view.emb y 1 : Fin 2048) = y 1 :=
    Fin.ext ((win0_12.rect_emb_val t y 1).trans (by rw [(idx t).2.2.2.2.2.2.2.2.2.2.1]; exact (congrArg (· + _) (Nat.zero_mul _)).trans (Nat.zero_add _)))
  have hrow := funext fun b => point m c t (y 0) b _ e0
  blk_simp
  rw [after0_12]
  frame_out
  rw [eq_ix2 (n0 := 256) (n1 := 2048) y]
  refine (payload_h2 _ _ (y 0) (y 1)).trans ?_
  refine (congrArg₂ (fun r s => Cert.Merge.normed r s (y 1)) hrow (scale m c t (y 1))).trans ?_
  exact congrArg (fun b => Cert.Merge.normed (X2 m c ((win0_12.blk t).view.emb y 0)) (m ((c : Thread nD τ).loc main_arg7) (ix2 0 b)) b) e1.symm

end Cert.Kernel4Ideal.Merge
-- ==== Proof.Prologue.lean ====
/- The layer's opening call: the normalized rows, and their product with the columns that hold the low-rank gate. -/
module

public import proofs.«01_k».proof.Proof.Gen.Kernel5Ideal.Value
public import proofs.«01_k».proof.Proof.MergePoint
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.Prologue

/-- Entry `(r, c)` of the normalized rows. -/
def hrow (x : FVec Ideal ⟨3, ![1, 8192, 2048]⟩ .f32) (s : FVec Ideal ⟨2, ![1, 2048]⟩ .f32) (r : Fin 8192) (c : Fin 2048) :
    EReal :=
  Cert.Merge.normed (fun k => x (ix3 0 r k)) (s (ix2 0 c)) c

/-- Entry `(r, c)` of the normalized rows against the weights. -/
def zrow (x : FVec Ideal ⟨3, ![1, 8192, 2048]⟩ .f32) (s : FVec Ideal ⟨2, ![1, 2048]⟩ .f32)
    (W : FVec Ideal ⟨3, ![1, 2048, 11296]⟩ .f32) (r : Fin 8192) (c : Fin 11296) : EReal :=
  ∑ k : Fin 2048, hrow x s r k * W (ix3 0 k c)

end Cert.Prologue

namespace Cert.Kernel5Ideal.Prologue
open Cert.Kernel5Ideal Cert.Kernel5Ideal.Gen

/-- An entry of the rows without their unit axis. -/
theorem rows_entry (x : FVec Ideal S1x8192x2048 .f32) (p : Fin 8192) (q : Fin 2048) :
    shapeCast S8192x2048 x shapeCasts_S1x8192x2048_S8192x2048 (ix2 p q) = x (ix3 0 p q) := by
  generalize hR : x (ix3 0 p q) = R
  pointwise
  exact hR

/-- An entry of the transposed weights. -/
theorem weights_entry (x : FVec Ideal S1x2048x11296 .f32) (p : Fin 11296) (q : Fin 2048) :
    transpose S11296x2048 [1, 0] (shapeCast S2048x11296 x shapeCasts_S1x2048x11296_S2048x11296)
      transposes_S2048x11296_S11296x2048_1_0 (ix2 p q) = x (ix3 0 q p) := by
  generalize hR : x (ix3 0 q p) = R
  pointwise
  exact hR

variable (m : (ℓ : Loc nD τ sig) → Buf (Elt Ideal) ℓ)

/-- The block indices of the windows that the two results read or write, at every point. -/
theorem idx : ∀ t : Fin cfg0.N, win0_0.index t = ![t.val, 0] ∧ win0_1.index t = ![0, 0] ∧ win0_3.index t = ![56, 0]
    ∧ win0_6.index t = ![t.val, 0] ∧ win0_7.index t = ![t.val, 0] ∧ t.val < 32 :=
  (by decide +kernel : ∀ t : Fin grid0.N, _)

/-- The rows before the first point: the input without its unit axis. -/
theorem V_rows (c : Dev nD) : V m c main_v0
    = shapeCast S8192x2048 (m ((c : Thread nD τ).loc main_arg0)) shapeCasts_S1x8192x2048_S8192x2048 := by
  rfl

/-- The scales before the first point. -/
theorem V_scales (c : Dev nD) : V m c main_v6
    = shapeCast S1x2048 (shapeCast S2048 (m ((c : Thread nD τ).loc main_arg1)) shapeCasts_S1x2048_S2048) shapeCasts_S2048_S1x2048 := by
  rfl

/-- The transposed weights before the first point. -/
theorem V_weights (c : Dev nD) : V m c main_v3
    = transpose S11296x2048 [1, 0] (shapeCast S2048x11296 (m ((c : Thread nD τ).loc main_arg2)) shapeCasts_S1x2048x11296_S2048x11296)
        transposes_S2048x11296_S11296x2048_1_0 := by
  unfold V
  after_results
  try rfl

/-- An entry of the rows before the first point. -/
theorem V_rows_at (c : Dev nD) (p : Fin 8192) (q : Fin 2048) :
    (V m c main_v0 : S8192x2048.Idx → EReal) (ix2 p q) = m ((c : Thread nD τ).loc main_arg0) (ix3 0 p q) := by
  rw [V_rows]
  exact rows_entry _ p q

/-- An entry of the scales before the first point. -/
theorem V_scales_at (c : Dev nD) (p : Fin 1) (q : Fin 2048) :
    (V m c main_v6 : S1x2048.Idx → EReal) (ix2 p q) = m ((c : Thread nD τ).loc main_arg1) (ix2 0 q) := by
  rw [V_scales]
  generalize m ((c : Thread nD τ).loc main_arg1) = x
  pointwise

/-- An entry of the transposed weights before the first point. -/
theorem V_weights_at (c : Dev nD) (p : Fin 11296) (q : Fin 2048) :
    (V m c main_v3 : S11296x2048.Idx → EReal) (ix2 p q) = m ((c : Thread nD τ).loc main_arg2) (ix3 0 q p) := by
  rw [V_weights]
  exact weights_entry _ p q

/-- The window of the narrow columns at a point, read in the weights. -/
theorem wblk (c : Dev nD) (t : Fin cfg0.N) (y0 : Fin 128) (y1 : Fin 2048) :
    X0_3 m c t (ix2 y0 y1) = m ((c : Thread nD τ).loc main_arg2) (ix3 0 y1 ⟨7168 + y0.val, by omega⟩) := by
  unfold X0_3 Pipeline.Window.fill
  rw [dif_pos (moved0_3 t _)]
  generalize hy : (fun a => (⟨(ix2 y0 y1 a).val, _⟩ : Fin _)) = y
  have e0 : (((win0_3.blk t).view.emb y 0 : Fin _) : ℕ) = 7168 + y0.val :=
    (win0_3.rect_emb_val t y 0).trans (by rw [(idx t).2.2.1, ← hy]; rfl)
  have e1 : (((win0_3.blk t).view.emb y 1 : Fin _) : ℕ) = y1.val :=
    (win0_3.rect_emb_val t y 1).trans (by rw [(idx t).2.2.1, ← hy]; exact (congrArg (· + _) (Nat.zero_mul _)).trans (Nat.zero_add _))
  have e : (win0_3.blk t).view.emb y = ix2 ⟨7168 + y0.val, by omega⟩ y1 :=
    (eq_ix2 (n0 := 11296) (n1 := 2048) _).trans (congrArg₂ ix2 (Fin.ext e0) (Fin.ext e1))
  exact (congrArg (V m c main_v3 : S11296x2048.Idx → EReal) e).trans (V_weights_at m c _ y1)

/-- The rows' window at a point, read in the layer's input. -/
theorem xblk (c : Dev nD) (t : Fin cfg0.N) (a : Fin 256) (b : Fin 2048) :
    iblk m c 0 t (ix2 a b) = m ((c : Thread nD τ).loc main_arg0)
      (ix3 0 ⟨256 * t.val + a.val, by have := (idx t).2.2.2.2.2; omega⟩ b) := by
  have e0 : (((win0_0.blk t).view.emb (ix2 a b) 0 : Fin _) : ℕ) = 256 * t.val + a.val :=
    (win0_0.rect_emb_val t _ 0).trans (by rw [(idx t).1]; exact congrArg (· + _) (Nat.mul_comm _ _))
  have e1 : (((win0_0.blk t).view.emb (ix2 a b) 1 : Fin _) : ℕ) = b.val :=
    (win0_0.rect_emb_val t _ 1).trans (by rw [(idx t).1]; exact (congrArg (· + _) (Nat.zero_mul _)).trans (Nat.zero_add _))
  have e : (win0_0.blk t).view.emb (ix2 a b) = ix2 ⟨256 * t.val + a.val, by have := (idx t).2.2.2.2.2; omega⟩ b :=
    (eq_ix2 (n0 := 8192) (n1 := 2048) _).trans (congrArg₂ ix2 (Fin.ext e0) (Fin.ext e1))
  exact (congrArg (V m c main_v0 : S8192x2048.Idx → EReal) e).trans (V_rows_at m c _ b)

/-- The scales' window at a point, read in the scales. -/
theorem sblk (c : Dev nD) (t : Fin cfg0.N) (b : Fin 2048) :
    iblk m c 1 t (ix2 0 b) = m ((c : Thread nD τ).loc main_arg1) (ix2 0 b) := by
  have e1 : (((win0_1.blk t).view.emb (ix2 (0 : Fin 1) b) 1 : Fin _) : ℕ) = b.val :=
    (win0_1.rect_emb_val t _ 1).trans (by rw [(idx t).2.1]; exact (congrArg (· + _) (Nat.zero_mul _)).trans (Nat.zero_add _))
  have e : (win0_1.blk t).view.emb (ix2 (0 : Fin 1) b) = ix2 0 b :=
    (eq_ix2 (n0 := 1) (n1 := 2048) _).trans (congrArg₂ ix2 (Subsingleton.elim _ _) (Fin.ext e1))
  exact (congrArg (V m c main_v6 : S1x2048.Idx → EReal) e).trans (V_scales_at m c _ b)

/-- At the first point the kernel fills the second scratch with the narrow columns of the weights. -/
theorem store_A (c : Dev nD) (t : Fin cfg0.N) (h : t.val % 32 = 0) (y) :
    (outsAt0 m c t.val t.isLt).2.2.2.2.2 y = X0_3 m c t y := by
  rw [outsAt0_A m c t h]
  frame_out
  pointwise [k0_pay4]

/-- At the other points the scratch stays. -/
theorem hold_B (c : Dev nD) (t : Fin cfg0.N) (h : ¬t.val % 32 = 0) (y) :
    (outsAt0 m c t.val t.isLt).2.2.2.2.2 y
      = (outsAt0 m c (t.val - 1) (Nat.lt_of_le_of_lt (Nat.sub_le _ _) t.isLt)).2.2.2.2.2 y := by
  rw [outsAt0_B m c t h]
  rfl

/-- So at every point the scratch holds the narrow columns. -/
theorem scratch_eq (c : Dev nD) (t : Fin cfg0.N) (y) :
    (outsAt0 m c t.val t.isLt).2.2.2.2.2 y = X0_3 m c ⟨32 * (t.val / 32), Pipeline.run_start_lt t⟩ y :=
  Pipeline.eq_of_write_hold_apply (fun n hn => (outsAt0 m c n hn).2.2.2.2.2) 32 (fun t => X0_3 m c t)
    (store_A m c) (hold_B m c) t y

/-- The second result's block at a point: the point's normalized rows against the scratch. -/
theorem out_z (c : Dev nD) (t : Fin cfg0.N) :
    (outsAt0 m c t.val t.isLt).2.1 = k0_pay6 (iblk m c 0 t) (iblk m c 1 t) ((outsAt0 m c t.val t.isLt).2.2.2.2.2) := by
  by_cases h : t.val % 32 = 0
  · rw [outsAt0_A m c t h]
    frame_out
  · rw [funext (hold_B m c t h), outsAt0_B m c t h]
    frame_out
    rw [Idealize.ShloMosaic.read_unread_whole]

/-- The first result's block at a point. -/
theorem out_h (c : Dev nD) (t : Fin cfg0.N) :
    (outsAt0 m c t.val t.isLt).1 = k0_pay5 (iblk m c 0 t) (iblk m c 1 t) := by
  by_cases h : t.val % 32 = 0
  · rw [outsAt0_A m c t h]
    frame_out
  · rw [outsAt0_B m c t h]
    frame_out

/-- The normalized rows that the body computes from a block of rows and the scales. -/
theorem payload_h (x : Vec Ideal S256x2048 .f32) (s : Vec Ideal S1x2048 .f32) (a : Fin 256) (b : Fin 2048) :
    k0_pay5 (F := Ideal) x s (ix2 a b) = Cert.Merge.normed (fun k => x (ix2 a k)) (s (ix2 0 b)) b := by
  unfold Cert.Merge.normed
  pointwise [k0_pay5]

/-- The product that the body stores, entry by entry. -/
theorem payload_z (x : Vec Ideal S256x2048 .f32) (s : Vec Ideal S1x2048 .f32) (w : Vec Ideal S128x2048 .bf16) (a : Fin 256)
    (b : Fin 128) :
    k0_pay6 (F := Ideal) x s w (ix2 a b) = ∑ k : Fin 2048, k0_pay5 (F := Ideal) x s (ix2 a k) * w (ix2 b k) := by
  unfold k0_pay6
  generalize k0_pay5 (F := Ideal) x s = h
  pointwise

/-- The normalized rows that a point stores. -/
theorem point_h (c : Dev nD) (t : Fin cfg0.N) (a : Fin 256) (b : Fin 2048) (r : Fin 8192) (hr : r.val = 256 * t.val + a.val) :
    k0_pay5 (iblk m c 0 t) (iblk m c 1 t) (ix2 a b)
      = Cert.Prologue.hrow (m ((c : Thread nD τ).loc main_arg0)) (m ((c : Thread nD τ).loc main_arg1)) r b := by
  refine (payload_h _ _ a b).trans ?_
  refine congrArg₂ (fun r s => Cert.Merge.normed r s b) (funext fun k => (xblk m c t a k).trans ?_) (sblk m c t b)
  exact congrArg (fun r => m ((c : Thread nD τ).loc main_arg0) (ix3 0 r k)) (Fin.ext hr.symm)

/-- The first result array after the run: the normalized rows. -/
theorem final_h (c : Dev nD) : (dats m 0 c).arrAt 6 cfg0.N = fun i : S8192x2048.Idx =>
    Cert.Prologue.hrow (m ((c : Thread nD τ).loc main_arg0)) (m ((c : Thread nD τ).loc main_arg1)) (i 0) (i 1) := by
  refine (dats m 0 c).arrAt_eq_of_covers 6 _ (by decide +kernel) fun t _ y => ?_
  have e0 : (((win0_6.blk t).view.emb y 0 : Fin _) : ℕ) = 256 * t.val + (y 0).val :=
    (win0_6.rect_emb_val t y 0).trans (by rw [(idx t).2.2.2.1]; exact congrArg (· + _) (Nat.mul_comm _ _))
  have e1 : ((win0_6.blk t).view.emb y 1 : Fin 2048) = y 1 :=
    Fin.ext ((win0_6.rect_emb_val t y 1).trans (by rw [(idx t).2.2.2.1]; exact (congrArg (· + _) (Nat.zero_mul _)).trans (Nat.zero_add _)))
  blk_simp
  rw [after0_6, out_h]
  rw [eq_ix2 (n0 := 256) (n1 := 2048) y]
  refine (point_h m c t (y 0) (y 1) _ e0).trans ?_
  exact congrArg (Cert.Prologue.hrow (m ((c : Thread nD τ).loc main_arg0)) (m ((c : Thread nD τ).loc main_arg1)) _) e1.symm

/-- The second result array after the run: the normalized rows against the narrow columns of the weights. -/
theorem final_z (c : Dev nD) : (dats m 0 c).arrAt 7 cfg0.N = fun i : S8192x128.Idx =>
    Cert.Prologue.zrow (m ((c : Thread nD τ).loc main_arg0)) (m ((c : Thread nD τ).loc main_arg1))
      (m ((c : Thread nD τ).loc main_arg2)) (i 0) ⟨7168 + (i 1).val, by have : (i 1).val < 128 := (i 1).isLt; omega⟩ := by
  refine (dats m 0 c).arrAt_eq_of_covers 7 _ (by decide +kernel) fun t _ y => ?_
  have e0 : (((win0_7.blk t).view.emb y 0 : Fin _) : ℕ) = 256 * t.val + (y 0).val :=
    (win0_7.rect_emb_val t y 0).trans (by rw [(idx t).2.2.2.2.1]; exact congrArg (· + _) (Nat.mul_comm _ _))
  have e1 : (((win0_7.blk t).view.emb y 1 : Fin 128) : ℕ) = (y 1).val :=
    (win0_7.rect_emb_val t y 1).trans (by rw [(idx t).2.2.2.2.1]; exact (congrArg (· + _) (Nat.zero_mul _)).trans (Nat.zero_add _))
  blk_simp
  rw [after0_7, out_z]
  rw [eq_ix2 (n0 := 256) (n1 := 128) y]
  refine (payload_z _ _ _ (y 0) (y 1)).trans ?_
  refine Fin.sum_fin_congr fun k => congrArg₂ (fun u v : EReal => u * v) (point_h m c t (y 0) k _ e0) ?_
  refine (scratch_eq m c t _).trans ((wblk m c _ (y 1) k).trans ?_)
  refine congrArg (fun q => m ((c : Thread nD τ).loc main_arg2) (ix3 0 k q)) (Fin.ext ?_)
  show 7168 + (y 1).val = 7168 + (win0_7.index t 1 * 128 + (y 1).val)
  rw [(idx t).2.2.2.2.1]
  exact congrArg (7168 + ·) ((congrArg (· + _) (Nat.zero_mul _)).trans (Nat.zero_add _)).symm

end Cert.Kernel5Ideal.Prologue
-- ==== Proof.Ref.lean ====
/- The references' result terms, entry by entry. -/
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.ProjShared
public import proofs.«01_k».proof.Proof.MergePoint
public import proofs.«01_k».proof.Proof.Prologue

@[expose] public section

set_option maxRecDepth 16384

noncomputable section

open Idealize.ShloMosaic

/-- Columns 0 to 4095 of the product of the activations with the weights, entry by entry. -/
theorem Cert.ReferenceIdeal.columns (X : FVec Ideal ⟨2, ![8192, 2048]⟩ .bf16) (W : FVec Ideal ⟨3, ![1, 2048, 11296]⟩ .f32)
    (i : S8192x4096.Idx) :
    extractStridedSlice S8192x4096 ![0, 0]
      (Host.dotGeneral dot_S8192x2048_S2048x11296_S8192x11296_1_0_0_1_n_n none
        (extf FTy.f32 X Gen.bitsLt_bf16_f32)
        (shapeCast S2048x11296 W Gen.shapeCasts_S1x2048x11296_S2048x11296))
      Gen.slices_S8192x11296_S8192x4096_0_0 i
    = Cert.Proj.rowDot X W (i 0) ⟨(i 1).val, by have : (i 1).val < 4096 := (i 1).isLt; omega⟩ := by
  generalize hR : Cert.Proj.rowDot X W (i 0) _ = R
  pointwise
  exact hR

/-- Columns 4112 to 7183 of the product of the activations with the weights, entry by entry. -/
theorem Cert.Reference2Ideal.columns (X : FVec Ideal ⟨2, ![8192, 2048]⟩ .bf16) (W : FVec Ideal ⟨3, ![1, 2048, 11296]⟩ .f32)
    (i : S8192x3072.Idx) :
    extractStridedSlice S8192x3072 ![0, 4112]
      (Host.dotGeneral dot_S8192x2048_S2048x11296_S8192x11296_1_0_0_1_n_n none
        (extf FTy.f32 X Gen.bitsLt_bf16_f32)
        (shapeCast S2048x11296 W Gen.shapeCasts_S1x2048x11296_S2048x11296))
      Gen.slices_S8192x11296_S8192x3072_0_4112 i
    = Cert.Proj.rowDot X W (i 0) ⟨4112 + (i 1).val, by have : (i 1).val < 3072 := (i 1).isLt; omega⟩ := by
  generalize hR : Cert.Proj.rowDot X W (i 0) _ = R
  pointwise
  exact hR

/-- Columns 7200 to 11295 of the product of the activations with the weights, entry by entry. -/
theorem Cert.Reference3Ideal.columns (X : FVec Ideal ⟨2, ![8192, 2048]⟩ .bf16) (W : FVec Ideal ⟨3, ![1, 2048, 11296]⟩ .f32)
    (i : S8192x4096.Idx) :
    extractStridedSlice S8192x4096 ![0, 7200]
      (Host.dotGeneral dot_S8192x2048_S2048x11296_S8192x11296_1_0_0_1_n_n none
        (extf FTy.f32 X Gen.bitsLt_bf16_f32)
        (shapeCast S2048x11296 W Gen.shapeCasts_S1x2048x11296_S2048x11296))
      Gen.slices_S8192x11296_S8192x4096_0_7200 i
    = Cert.Proj.rowDot X W (i 0) ⟨7200 + (i 1).val, by have : (i 1).val < 4096 := (i 1).isLt; omega⟩ := by
  generalize hR : Cert.Proj.rowDot X W (i 0) _ = R
  pointwise
  exact hR

namespace Cert.Reference4Ideal
open Cert.Reference4Ideal.Gen

/-- The reference's residual rows. -/
def refX2 (oa ob : FVec Ideal S8192x1024 .bf16) (z : FVec Ideal S8192x4096 .f32) (x : FVec Ideal S1x8192x2048 .f32)
    (woa wob : FVec Ideal S1x1024x2048 .f32) (wo : FVec Ideal S1x2048x2048 .f32) : FVec Ideal S8192x2048 .f32 :=
    addf (shapeCast _ x shapeCasts_S1x8192x2048_S8192x2048) (Host.dotGeneral
    dot_S8192x2048_S2048x2048_S8192x2048_1_0_0_1_n_n none (addf (mulf (Host.divf (broadcastInDim S8192x2048 ![]
    bcast_S_S8192x2048 (constant S_ .f32 0x3F800000#32)) (addf (broadcastInDim S8192x2048 ![] bcast_S_S8192x2048
    (constant S_ .f32 0x3F800000#32)) (Host.exp (Host.negf (extractStridedSlice S8192x2048 ![0, 0] z
    slices_S8192x4096_S8192x2048_0_0))))) (Host.dotGeneral dot_S8192x1024_S1024x2048_S8192x2048_1_0_0_1_n_n none (extf
    .f32 oa bitsLt_bf16_f32) (shapeCast _ woa shapeCasts_S1x1024x2048_S1024x2048))) (mulf (Host.divf (broadcastInDim
    S8192x2048 ![] bcast_S_S8192x2048 (constant S_ .f32 0x3F800000#32)) (addf (broadcastInDim S8192x2048 ![]
    bcast_S_S8192x2048 (constant S_ .f32 0x3F800000#32)) (Host.exp (Host.negf (extractStridedSlice S8192x2048 ![0,
    2048] z slices_S8192x4096_S8192x2048_0_2048))))) (Host.dotGeneral dot_S8192x1024_S1024x2048_S8192x2048_1_0_0_1_n_n
    none (extf .f32 ob bitsLt_bf16_f32) (shapeCast _ wob shapeCasts_S1x1024x2048_S1024x2048)))) (shapeCast _ wo
    shapeCasts_S1x2048x2048_S2048x2048))

/-- The reference's normalized rows, of the residual rows. -/
def refH2 (x2 : FVec Ideal S8192x2048 .f32) (nf : FVec Ideal S1x2048 .f32) : FVec Ideal S8192x2048 .f32 :=
    mulf (mulf x2 (broadcastInDim S8192x2048 ![0, 1] bcast_S8192x1_S8192x2048_0_1 (Host.rsqrt (addf (Host.divf
    (broadcastInDim S8192x1 ![0] bcast_S8192_S8192x1_0 (Host.reduceAdd (mulf x2 x2) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim
    S8192x2048 ![0, 1] bcast_S1x2048_S8192x2048_0_1 (broadcastInDim S1x2048 ![1] bcast_S2048_S1x2048_1 (shapeCast _ nf
    shapeCasts_S1x2048_S2048)))

/-- The residual rows, entry by entry. -/
theorem refX2_apply (oa ob : FVec Ideal S8192x1024 .bf16) (z : FVec Ideal S8192x4096 .f32) (x : FVec Ideal S1x8192x2048 .f32)
    (woa wob : FVec Ideal S1x1024x2048 .f32) (wo : FVec Ideal S1x2048x2048 .f32) (i : S8192x2048.Idx) :
    refX2 oa ob z x woa wob wo i = Cert.Merge.x2 oa ob z x woa wob wo (i 0) (i 1) := by
  generalize hR : Cert.Merge.x2 oa ob z x woa wob wo (i 0) (i 1) = R
  pointwise [refX2]
  simp only [← hR, Cert.Merge.x2, zero_sub]

/-- The normalized rows, entry by entry. -/
theorem refH2_apply (x2 : FVec Ideal S8192x2048 .f32) (nf : FVec Ideal S1x2048 .f32) (i : S8192x2048.Idx) :
    refH2 x2 nf i = Cert.Merge.normed (fun k => x2 (ix2 (i 0) k)) (nf (ix2 0 (i 1))) (i 1) := by
  generalize hR : Cert.Merge.normed (fun k => x2 (ix2 (i 0) k)) (nf (ix2 0 (i 1))) (i 1) = R
  pointwise [refH2]
  rw [← hR]
  unfold Cert.Merge.normed
  beta_reduce
  rw [← eq_ix2 (n0 := 8192) (n1 := 2048) i]

end Cert.Reference4Ideal

namespace Cert.Reference5Ideal
open Cert.Reference5Ideal.Gen

/-- The reference's normalized rows, of the rows. -/
def refH (x : FVec Ideal S8192x2048 .f32) (s : FVec Ideal S1x2048 .f32) : FVec Ideal S8192x2048 .f32 :=
    mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim
    S8192x2048 ![0, 1] bcast_S1x2048_S8192x2048_0_1 (broadcastInDim S1x2048 ![1] bcast_S2048_S1x2048_1 (shapeCast _ s
    shapeCasts_S1x2048_S2048)))

/-- The normalized rows, entry by entry. -/
theorem refH_apply (x : FVec Ideal S8192x2048 .f32) (s : FVec Ideal S1x2048 .f32) (r : Fin 8192) (c : Fin 2048) :
    refH x s (ix2 r c) = Cert.Merge.normed (fun k => x (ix2 r k)) (s (ix2 0 c)) c := by
  generalize hR : Cert.Merge.normed (fun k => x (ix2 r k)) (s (ix2 0 c)) c = R
  pointwise [refH]
  rw [← hR]
  unfold Cert.Merge.normed
  rfl

/-- An entry of the rows without their unit axis. -/
theorem rows_entry (x : FVec Ideal S1x8192x2048 .f32) (p : Fin 8192) (q : Fin 2048) :
    shapeCast S8192x2048 x shapeCasts_S1x8192x2048_S8192x2048 (ix2 p q) = x (ix3 0 p q) := by
  generalize hR : x (ix3 0 p q) = R
  pointwise
  exact hR

/-- The normalized rows of the layer's input, entry by entry. -/
theorem refH_rows (x : FVec Ideal S1x8192x2048 .f32) (s : FVec Ideal S1x2048 .f32) (r : Fin 8192) (c : Fin 2048) :
    refH (shapeCast _ x shapeCasts_S1x8192x2048_S8192x2048) s (ix2 r c) = Cert.Prologue.hrow x s r c := by
  rw [refH_apply]
  exact congrArg (fun f => Cert.Merge.normed f (s (ix2 0 c)) c) (funext fun k => rows_entry x r k)

/-- Columns 7168 to 7295 of a product of rows with the weights, entry by entry. -/
theorem columns (H : FVec Ideal S8192x2048 .f32) (W : FVec Ideal S1x2048x11296 .f32) (i : S8192x128.Idx) :
    extractStridedSlice S8192x128 ![0, 7168]
      (Host.dotGeneral dot_S8192x2048_S2048x11296_S8192x11296_1_0_0_1_n_n none H
        (shapeCast S2048x11296 W shapeCasts_S1x2048x11296_S2048x11296))
      slices_S8192x11296_S8192x128_0_7168 i
    = ∑ k : Fin 2048, H (ix2 (i 0) k) * W (ix3 0 k ⟨7168 + (i 1).val, by have : (i 1).val < 128 := (i 1).isLt; omega⟩) := by
  generalize hR : (∑ k : Fin 2048, H (ix2 (i 0) k) * W (ix3 0 k _)) = R
  pointwise
  exact hR

/-- The product of the normalized rows with the weights in columns 7168 to 7295, entry by entry. -/
theorem columns_rows (x : FVec Ideal S1x8192x2048 .f32) (s : FVec Ideal S1x2048 .f32) (W : FVec Ideal S1x2048x11296 .f32)
    (i : S8192x128.Idx) :
    extractStridedSlice S8192x128 ![0, 7168]
      (Host.dotGeneral dot_S8192x2048_S2048x11296_S8192x11296_1_0_0_1_n_n none
        (refH (shapeCast _ x shapeCasts_S1x8192x2048_S8192x2048) s)
        (shapeCast S2048x11296 W shapeCasts_S1x2048x11296_S2048x11296))
      slices_S8192x11296_S8192x128_0_7168 i
    = Cert.Prologue.zrow x s W (i 0) ⟨7168 + (i 1).val, by have : (i 1).val < 128 := (i 1).isLt; omega⟩ :=
  (columns _ W i).trans (Finset.sum_congr rfl fun k _ => congrArg (· * _) (refH_rows x s (i 0) k))

/-- The normalized rows as the reference returns them. -/
theorem rounded_rows (x : FVec Ideal S1x8192x2048 .f32) (s : FVec Ideal S1x2048 .f32) (i : S8192x2048.Idx) :
    truncf .bf16 (refH (shapeCast _ x shapeCasts_S1x8192x2048_S8192x2048) s) bitsLt_bf16_f32 i
    = Cert.Prologue.hrow x s (i 0) (i 1) := by
  rw [eq_ix2 (n0 := 8192) (n1 := 2048) i]
  exact refH_rows x s (i 0) (i 1)

end Cert.Reference5Ideal
-- ==== Proof.Route.lean ====
/- The routing of one token: what a stable sort puts first and second, and the gates that follow. -/
module

public import Idealize.ShloMosaic.Lib.Pipeline.ValueKit
public import Idealize.ShloMosaic.Lib.SortFacts

@[expose] public section

noncomputable section

open Idealize.ShloMosaic

namespace Cert.Route

/-- The order by which the greatest come first. -/
abbrev above {n : Nat} (x : Fin n → EReal) (a b : Fin n) : Bool := decide (x b < x a)

/-- What a stable sort puts first: an entry that no other exceeds, and that exceeds those before it. -/
theorem head_stable {n : Nat} (x : Fin n → EReal) (l : List (Fin n)) (hl : l ≠ []) (hs : l.Pairwise (· < ·)) :
    ∃ h r, stableSort (above x) l = h :: r ∧ h ∈ l ∧ (∀ b ∈ l, x b ≤ x h) ∧ ∀ b ∈ l, b < h → x b < x h := by
  induction l with
  | nil => exact absurd rfl hl
  | cons a l ih =>
    rcases Classical.em (l = []) with rfl | hne
    · exact ⟨a, [], rfl, by simp, by simp, by simp⟩
    · rw [List.pairwise_cons] at hs
      obtain ⟨h, r, e, hm, hb, hf⟩ := ih hne hs.2
      unfold stableSort
      rw [e]
      unfold insertBefore
      by_cases hc : x a < x h
      · rw [if_pos (decide_eq_true hc)]
        refine ⟨h, _, rfl, List.mem_cons_of_mem _ hm, ?_, ?_⟩
        · intro b hbm
          rcases List.mem_cons.1 hbm with rfl | hbm
          · exact hc.le
          · exact hb b hbm
        · intro b hbm hlt
          rcases List.mem_cons.1 hbm with rfl | hbm
          · exact hc
          · exact hf b hbm hlt
      · rw [if_neg (by simpa using hc)]
        refine ⟨a, _, rfl, by simp, ?_, ?_⟩
        · intro b hbm
          rcases List.mem_cons.1 hbm with rfl | hbm
          · exact le_rfl
          · exact (hb b hbm).trans (not_lt.1 hc)
        · intro b hbm hlt
          rcases List.mem_cons.1 hbm with rfl | hbm
          · exact absurd hlt (lt_irrefl _)
          · exact absurd hlt (hs.1 b hbm).asymm

/-- The first position of the sort: the first of the greatest. -/
theorem sorted_zero {n : Nat} (x : Fin (n + 1) → EReal) :
    (∀ b, x b ≤ x (sortedFrom (above x) 0)) ∧ ∀ b, b < sortedFrom (above x) 0 → x b < x (sortedFrom (above x) 0) := by
  have hne : List.finRange (n + 1) ≠ [] := by
    intro h
    have := congrArg List.length h
    simp at this
  obtain ⟨h, r, e, -, hb, hf⟩ := head_stable x (List.finRange (n + 1)) hne (List.pairwise_lt_finRange _)
  have e0 : sortedFrom (above x) 0 = h := by
    unfold sortedFrom
    have : ∀ (l : List (Fin (n + 1))) (p : 0 < l.length), l = h :: r → l.get ⟨0, p⟩ = h := by
      rintro l p rfl; rfl
    exact this _ _ e
  rw [e0]
  exact ⟨fun b => hb b (List.mem_finRange b), fun b => hf b (List.mem_finRange b)⟩

/-- The second position of the sort: the greatest of what is left without the first. -/
theorem sorted_one {n : Nat} (x : Fin (n + 2) → EReal) :
    sortedFrom (above x) 1 ≠ sortedFrom (above x) 0 ∧ ∀ b, b ≠ sortedFrom (above x) 0 → x b ≤ x (sortedFrom (above x) 1) := by
  refine ⟨fun h => absurd (sortedFrom_injective _ h) (by simp [Fin.ext_iff]), fun b hb => ?_⟩
  obtain ⟨j, rfl⟩ := sortedFrom_surjective (above x) b
  rcases Classical.em (j = 1) with rfl | h1
  · exact le_rfl
  have hj : (1 : Fin (n + 2)) < j := by
    have h0 : j ≠ 0 := fun h => hb (by rw [h])
    rw [Fin.lt_def]
    have h0' : j.val ≠ 0 := fun h => h0 (Fin.ext h)
    have h1' : j.val ≠ 1 := fun h => h1 (Fin.ext (by simpa using h))
    have : ((1 : Fin (n + 2)) : ℕ) = 1 := by simp
    omega
  have := sortedFrom_noInversion (above x) (above x) (fun a b h => by
      simp only [above, decide_eq_true_eq, decide_eq_false_iff_not, not_lt] at h ⊢; exact h.le) (fun a b h => h)
    (fun a b c h h' => by
      simp only [above, decide_eq_false_iff_not, not_lt] at h h' ⊢; exact h.trans h') 1 j hj
  simpa only [above, decide_eq_false_iff_not, not_lt] using this

/-- An entry of the first results along the last axis, and its position. -/
theorem topK_apply {R n k : Nat} (x : FVec Ideal ⟨2, ![R, n]⟩ .f32)
    (h : (⟨2, ![R, n]⟩ : Shape).Slices (fun _ => 0) ⟨2, ![R, k]⟩) (t : Fin R) (j : Fin k) (hk : j.val < n) :
    (Host.topK ⟨2, ![R, k]⟩ 1 (FloatOps.cmpfTotal .gt) x h).1 (ix2 t j)
        = x (ix2 t (sortedFrom (above fun a => x (ix2 t a)) ⟨j.val, hk⟩))
    ∧ (Host.topK ⟨2, ![R, k]⟩ 1 (FloatOps.cmpfTotal .gt) x h).2 (ix2 t j)
        = BitVec.ofNat 32 (sortedFrom (above fun a => x (ix2 t a)) ⟨j.val, hk⟩).val := by
  have e : (fun a : Fin 2 => (⟨0 + ((ix2 t j : (⟨2, ![R, k]⟩ : Shape).Idx) a).val, by
        match a with
        | ⟨0, _⟩ => simpa using t.isLt
        | ⟨1, _⟩ => simpa using hk⟩ : Fin ((⟨2, ![R, n]⟩ : Shape).size a))) = ix2 t ⟨j.val, hk⟩ := by
    funext a
    match a with
    | ⟨0, _⟩ => exact Fin.ext (Nat.zero_add _)
    | ⟨1, _⟩ => exact Fin.ext (Nat.zero_add _)
  have al : ∀ (q b : Fin n), Shape.Idx.along (s := ⟨2, ![R, n]⟩) (ix2 t q) (1 : Fin 2) b = ix2 t b := by
    intro q b
    funext a
    match a with
    | ⟨0, _⟩ => rfl
    | ⟨1, _⟩ => rfl
  have cm : ∀ a b : EReal, (FloatOps.cmpfTotal (F := Ideal) (φ := .f32) CmpDirection.gt a b == 1#1) = decide (b < a) := by
    intro a b
    show (BitVec.ofBool (decide (b < a)) == 1#1) = decide (b < a)
    cases decide (b < a) <;> rfl
  have bf : ∀ q : Fin n, (fun a b : Fin n => FloatOps.cmpfTotal (F := Ideal) (φ := .f32) CmpDirection.gt
      (x (Shape.Idx.along (s := ⟨2, ![R, n]⟩) (ix2 t q) (1 : Fin 2) a))
      (x (Shape.Idx.along (s := ⟨2, ![R, n]⟩) (ix2 t q) (1 : Fin 2) b)) == 1#1) = above fun a => x (ix2 t a) := by
    intro q
    funext a b
    rw [cm, al, al]
  have key : (Host.topK ⟨2, ![R, k]⟩ 1 (FloatOps.cmpfTotal .gt) x h).1 (ix2 t j)
      = x (Shape.Idx.along (s := ⟨2, ![R, n]⟩) (ix2 t ⟨j.val, hk⟩) (1 : Fin 2)
        (sortedFrom (fun a b : Fin n => FloatOps.cmpfTotal (F := Ideal) (φ := .f32) CmpDirection.gt
          (x (Shape.Idx.along (s := ⟨2, ![R, n]⟩) (ix2 t ⟨j.val, hk⟩) (1 : Fin 2) a))
          (x (Shape.Idx.along (s := ⟨2, ![R, n]⟩) (ix2 t ⟨j.val, hk⟩) (1 : Fin 2) b)) == 1#1) ⟨j.val, hk⟩)) := by
    unfold Host.topK Host.sort2
    simp only [extractStridedSlice]
    exact (congrArg _ e).trans rfl
  have key2 : (Host.topK ⟨2, ![R, k]⟩ 1 (FloatOps.cmpfTotal .gt) x h).2 (ix2 t j)
      = BitVec.ofNat 32 (sortedFrom (fun a b : Fin n => FloatOps.cmpfTotal (F := Ideal) (φ := .f32) CmpDirection.gt
          (x (Shape.Idx.along (s := ⟨2, ![R, n]⟩) (ix2 t ⟨j.val, hk⟩) (1 : Fin 2) a))
          (x (Shape.Idx.along (s := ⟨2, ![R, n]⟩) (ix2 t ⟨j.val, hk⟩) (1 : Fin 2) b)) == 1#1) ⟨j.val, hk⟩).val := by
    unfold Host.topK Host.sort2
    simp only [extractStridedSlice]
    refine (congrArg _ e).trans ?_
    rw [dif_pos (by decide : (1 : ℕ) < 2)]
    dsimp only
    rw [dif_pos (by decide : (1 : ℕ) < 2)]
    refine congrArg (BitVec.ofNat 32) ?_
    exact congrArg Fin.val (Function.update_self (1 : Fin 2) _ (ix2 t ⟨j.val, hk⟩ : (⟨2, ![R, n]⟩ : Shape).Idx))
  refine ⟨(key.trans (congrArg x (al ⟨j.val, hk⟩ _))).trans
    (congrArg (fun f : Fin n → Fin n → Bool => x (ix2 t (sortedFrom f ⟨j.val, hk⟩))) (bf ⟨j.val, hk⟩)), key2.trans
    (congrArg (fun f : Fin n → Fin n → Bool => BitVec.ofNat 32 (sortedFrom f ⟨j.val, hk⟩).val) (bf ⟨j.val, hk⟩))⟩

/-- Minus infinity's word. -/
theorem bits_bot : Ideal.ofBits .f32 0xFF800000#32 = (⊥ : EReal) := by
  simp [Ideal.ofBits, Ideal.ieee]

/-- Plus infinity's word. -/
theorem bits_top : Ideal.ofBits .f32 0x7F800000#32 = (⊤ : EReal) := by
  simp [Ideal.ofBits, Ideal.ieee]

/-- A maximum over positions is the value at a position that no other exceeds. -/
theorem fold_max_eq {n : Nat} (f : Fin n → EReal) (s : Fin n) (h : ∀ b, f b ≤ f s) :
    Finset.fold max ⊥ f Finset.univ = f s :=
  le_antisymm ((Finset.fold_max_le _).2 ⟨bot_le, fun b _ => h b⟩) ((Finset.le_fold_max _).2 (Or.inr ⟨s, Finset.mem_univ s, le_rfl⟩))

/-- The least of the positions that are marked, where `8` stands for a position that is not. -/
theorem fold_min_eq : ∀ (s : Fin 8) (c : Fin 8 → Bool), c s = true → (∀ b, b < s → c b = false) →
    Finset.fold IntOp.minsi 2147483647#32 (fun b => if c b = true then BitVec.ofNat 32 b.val else 8#32) Finset.univ
      = BitVec.ofNat 32 s.val := by
  decide +kernel

/-- The same for the positions that attain a maximum. -/
theorem fold_first (f : Fin 8 → EReal) (M : EReal) (s : Fin 8) (hs : f s = M) (hb : ∀ b, b < s → f b < M) :
    Finset.fold IntOp.minsi 2147483647#32 (fun b => if f b = M then BitVec.ofNat 32 b.val else 8#32) Finset.univ
      = BitVec.ofNat 32 s.val := by
  have := fold_min_eq s (fun b => decide (f b = M)) (decide_eq_true hs) (fun b h => decide_eq_false (hb b h).ne)
  simpa only [decide_eq_true_eq] using this

/-- A quotient of reals. -/
theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The exponential of a difference of reals. -/
theorem exp_sub (a b : ℝ) : Ideal.exp ((a : EReal) - (b : EReal)) = ((Real.exp (a - b) : ℝ) : EReal) := by
  rw [← EReal.coe_sub]; rfl

/-- The exponential of minus infinity less a real. -/
theorem exp_bot_sub (b : ℝ) : Ideal.exp (⊥ - (b : EReal)) = 0 := by
  rw [EReal.bot_sub]; rfl

/-- A finite sum of reals. -/
theorem sum_real {n : Nat} (f : Fin n → ℝ) : (∑ a, (f a : EReal)) = ((∑ a, f a : ℝ) : EReal) := by
  induction n with
  | zero => simp
  | succ n ih => rw [Fin.sum_univ_succ, Fin.sum_univ_succ, ih, EReal.coe_add]

section groups
variable (L : Fin 4 → ℝ)

/-- The first of the greatest groups. -/
def grp : Fin 4 := sortedFrom (above fun g => (L g : EReal)) 0

theorem grp_le (g : Fin 4) : L g ≤ L (grp L) := EReal.coe_le_coe_iff.1 ((sorted_zero fun g => (L g : EReal)).1 g)
theorem grp_lt (g : Fin 4) (h : g < grp L) : L g < L (grp L) :=
  EReal.coe_lt_coe_iff.1 ((sorted_zero fun g => (L g : EReal)).2 g h)

/-- The normalizer of the groups' softmax. -/
def total : ℝ := ∑ g, Real.exp (L g - L (grp L))

theorem total_pos : 0 < total L := Finset.sum_pos (fun _ _ => Real.exp_pos _) ⟨0, Finset.mem_univ _⟩

theorem groups_max : Finset.fold max ⊥ (fun g => (L g : EReal)) Finset.univ = (L (grp L) : EReal) :=
  fold_max_eq (fun g => (L g : EReal)) (grp L) fun b => EReal.coe_le_coe_iff.2 (grp_le L b)

/-- A group's probability. -/
theorem prob_real (g : Fin 4) :
    Ideal.div (Ideal.exp ((L g : EReal) - (L (grp L) : EReal))) (∑ a, Ideal.exp ((L a : EReal) - (L (grp L) : EReal)))
      = ((Real.exp (L g - L (grp L)) / total L : ℝ) : EReal) := by
  simp only [exp_sub, sum_real]
  exact div_real _ _ (total_pos L).ne'

/-- The probabilities are ordered as the logits are. -/
theorem above_prob : (above fun g : Fin 4 => ((Real.exp (L g - L (grp L)) / total L : ℝ) : EReal)) = above fun g => (L g : EReal) := by
  funext a b
  unfold above
  refine decide_eq_decide.2 ?_
  rw [EReal.coe_lt_coe_iff, EReal.coe_lt_coe_iff, div_lt_div_iff_of_pos_right (total_pos L), Real.exp_lt_exp]
  exact sub_lt_sub_iff_right _

/-- The logits of eight rows, the last four masked. -/
def masked (i : Fin 8) : EReal := if h : i.val < 4 then (L ⟨i.val, h⟩ : EReal) else ⊥

theorem masked_grp : masked L ⟨(grp L).val, by omega⟩ = (L (grp L) : EReal) := dif_pos (grp L).isLt

theorem masked_le (i : Fin 8) : masked L i ≤ (L (grp L) : EReal) := by
  unfold masked
  split
  · exact EReal.coe_le_coe_iff.2 (grp_le L _)
  · exact bot_le

theorem masked_max : Finset.fold max ⊥ (masked L) Finset.univ = (L (grp L) : EReal) :=
  (fold_max_eq (masked L) ⟨(grp L).val, by omega⟩ fun b => (masked_le L b).trans (masked_grp L).ge).trans (masked_grp L)

theorem masked_first :
    Finset.fold IntOp.minsi 2147483647#32
      (fun b => if masked L b = (L (grp L) : EReal) then BitVec.ofNat 32 b.val else 8#32) Finset.univ
      = BitVec.ofNat 32 (grp L).val := by
  refine fold_first (masked L) _ ⟨(grp L).val, by omega⟩ (masked_grp L) fun b hb => ?_
  have hb' : b.val < (grp L).val := hb
  unfold masked
  rw [dif_pos (by omega)]
  exact EReal.coe_lt_coe_iff.2 (grp_lt L _ hb')

theorem masked_total : Ideal.div 1 (∑ i, Ideal.exp (masked L i - (L (grp L) : EReal))) = ((1 / total L : ℝ) : EReal) := by
  have e : (∑ i, Ideal.exp (masked L i - (L (grp L) : EReal))) = ((total L : ℝ) : EReal) := by
    unfold total
    rw [← sum_real]
    simp only [← exp_sub]
    rw [Fin.sum_univ_eight, Fin.sum_univ_four]
    have z : ∀ i : Fin 8, ¬ i.val < 4 → Ideal.exp (masked L i - (L (grp L) : EReal)) = 0 := by
      intro i h
      unfold masked
      rw [dif_neg h, exp_bot_sub]
    rw [z 4 (by decide), z 5 (by decide), z 6 (by decide), z 7 (by decide)]
    simp only [add_zero]
    rfl
  rw [e, ← EReal.coe_one]
  exact div_real _ _ (total_pos L).ne'

end groups

section experts
variable (x : Fin 8 → ℝ)

/-- The first of the greatest experts, and the greatest of the others. -/
def fst : Fin 8 := sortedFrom (above fun e => (x e : EReal)) 0
def snd : Fin 8 := sortedFrom (above fun e => (x e : EReal)) 1

theorem fst_le (e : Fin 8) : x e ≤ x (fst x) := EReal.coe_le_coe_iff.1 ((sorted_zero fun e => (x e : EReal)).1 e)
theorem fst_lt (e : Fin 8) (h : e < fst x) : x e < x (fst x) :=
  EReal.coe_lt_coe_iff.1 ((sorted_zero fun e => (x e : EReal)).2 e h)
theorem snd_ne : snd x ≠ fst x := (sorted_one fun e => (x e : EReal)).1
theorem snd_le (e : Fin 8) (h : e ≠ fst x) : x e ≤ x (snd x) :=
  EReal.coe_le_coe_iff.1 ((sorted_one fun e => (x e : EReal)).2 e h)

theorem experts_max : Finset.fold max ⊥ (fun e => (x e : EReal)) Finset.univ = (x (fst x) : EReal) :=
  fold_max_eq (fun e => (x e : EReal)) (fst x) fun b => EReal.coe_le_coe_iff.2 (fst_le x b)

theorem experts_first :
    Finset.fold IntOp.minsi 2147483647#32
      (fun b => if (x b : EReal) = (x (fst x) : EReal) then BitVec.ofNat 32 b.val else 8#32) Finset.univ
      = BitVec.ofNat 32 (fst x).val :=
  fold_first (fun e => (x e : EReal)) _ (fst x) rfl fun b hb => EReal.coe_lt_coe_iff.2 (fst_lt x b hb)

/-- The greatest expert without the first. -/
theorem rest_max : Finset.fold max ⊥ (fun e => if e = fst x then ⊥ else (x e : EReal)) Finset.univ = (x (snd x) : EReal) := by
  refine (fold_max_eq (fun e => if e = fst x then ⊥ else (x e : EReal)) (snd x) fun b => ?_).trans (if_neg (snd_ne x))
  rw [if_neg (snd_ne x)]
  split
  · exact bot_le
  · exact EReal.coe_le_coe_iff.2 (snd_le x b ‹_›)

/-- The ratio of the second best to the best. -/
def ratio : ℝ := Real.exp (x (snd x) - x (fst x))

theorem ratio_pos : 0 < 1 + ratio x := by have := Real.exp_pos (x (snd x) - x (fst x)); unfold ratio; linarith

/-- The gates of the best two from their exponentials and the group's probability. -/
theorem gate_zero (p : ℝ) :
    Ideal.div ((p : ℝ) : EReal) (1 + Ideal.exp ((x (snd x) : EReal) - (x (fst x) : EReal)))
      = ((p / (1 + ratio x) : ℝ) : EReal) := by
  rw [exp_sub, ← EReal.coe_one, ← EReal.coe_add]
  exact div_real _ _ (ratio_pos x).ne'

theorem gate_one (p : ℝ) :
    Ideal.div ((p : EReal) * Ideal.exp ((x (snd x) : EReal) - (x (fst x) : EReal)))
      (1 + Ideal.exp ((x (snd x) : EReal) - (x (fst x) : EReal)))
      = ((p * ratio x / (1 + ratio x) : ℝ) : EReal) := by
  rw [exp_sub, ← EReal.coe_one, ← EReal.coe_add, ← EReal.coe_mul]
  exact div_real _ _ (ratio_pos x).ne'

/-- The two best, as a pair. -/
def best (j : Fin 2) : ℝ := if j = 0 then x (fst x) else x (snd x)

theorem best_max : max ⊥ (Finset.fold max ⊥ (fun j => (best x j : EReal)) Finset.univ) = (x (fst x) : EReal) := by
  rw [max_eq_right bot_le]
  refine (fold_max_eq (fun j => (best x j : EReal)) 0 fun b => EReal.coe_le_coe_iff.2 ?_).trans (by simp [best])
  unfold best
  rw [if_pos rfl]
  split
  · exact le_rfl
  · exact fst_le x _

theorem best_gate (p : ℝ) (j : Fin 2) :
    Ideal.div (Ideal.exp ((best x j : EReal) - (x (fst x) : EReal)))
        (∑ a, Ideal.exp ((best x a : EReal) - (x (fst x) : EReal))) * (p : EReal)
      = if j = 0 then ((p / (1 + ratio x) : ℝ) : EReal) else ((p * ratio x / (1 + ratio x) : ℝ) : EReal) := by
  have e : (∑ a, Ideal.exp ((best x a : EReal) - (x (fst x) : EReal))) = ((1 + ratio x : ℝ) : EReal) := by
    simp only [exp_sub, sum_real, Fin.sum_univ_two, best, if_pos, sub_self, Real.exp_zero, one_ne_zero, if_false]
    rfl
  rw [e, exp_sub, div_real _ _ (ratio_pos x).ne', ← EReal.coe_mul]
  have hj : j = 0 ∨ j = 1 := by omega
  rcases hj with rfl | rfl
  · rw [if_pos rfl]
    simp only [best, if_pos, sub_self, Real.exp_zero]
    exact congrArg _ (by ring)
  · rw [if_neg (by decide)]
    simp only [best, one_ne_zero, if_false]
    exact congrArg _ (by unfold ratio; ring)

end experts

/-- Column `j` of a token's gates, from its group logits and the best group's expert logits. -/
def gate (L : Fin 4 → ℝ) (x : Fin 8 → ℝ) (j : Fin 128) : EReal :=
  if j = 0 then ((1 / total L / (1 + ratio x) : ℝ) : EReal)
  else if j = 1 then ((1 / total L * ratio x / (1 + ratio x) : ℝ) : EReal) else 0

/-- The group and expert logits of token `t`, for real logits `z`. -/
abbrev grpLogits (z : Fin 128 → Fin 8192 → ℝ) (t : Fin 8192) (g : Fin 4) : ℝ := z ⟨g.val, by omega⟩ t
abbrev expLogits (z : Fin 128 → Fin 8192 → ℝ) (t : Fin 8192) (g : Fin 4) (e : Fin 8) : ℝ := z ⟨8 + (g.val * 8 + e.val), by omega⟩ t

end Cert.Route
-- ==== Proof.RouteKernel.lean ====
/- The kernel's gates, entry by entry, for real logits, and what the run leaves in the gates' array. -/
module

public import proofs.«01_k».proof.Proof.Gen.Kernel6Ideal.Value
public import Idealize.ShloMosaic.Lib.Pipeline.ValueKit
public import Idealize.ShloMosaic.Lib.Pipeline.ReadBack
public import proofs.«01_k».proof.Proof.Route

@[expose] public section

set_option maxRecDepth 16384

noncomputable section

open Idealize.ShloMosaic Idealize.ShloMosaic.TcCoe Idealize.SL.Sem
open Idealize.ShloMosaic.Pipeline (Dat)

namespace Cert.Kernel6Ideal.Route
open Cert.Kernel6Ideal Cert.Kernel6Ideal.Gen Cert.Route

theorem pay2_apply (v : Vec Ideal S8x8192 .f32) (i : Fin 8) (t : Fin 8192) :
    k0_pay2 v (ix2 i t) = if i.val < 4 then v (ix2 i t) else ⊥ := by
  unfold k0_pay2
  pointwise
  rw [bits_bot]
  generalize v (ix2 i t) = a
  have h : ∀ i : Fin 8, IntOp.cmpi CmpIPredicate.slt (BitVec.ofNat 32 i.val) 4#32 = if i.val < 4 then 1#1 else 0#1 := by decide
  rw [h]
  split <;> rfl

theorem pay3_apply (v : Vec Ideal S8x8192 .f32) (t : Fin 8192) :
    k0_pay3 v (ix2 0 t) = Finset.fold max ⊥ (fun i => k0_pay2 v (ix2 i t)) Finset.univ := by
  rw [← bits_bot]
  generalize hR : Finset.fold (max : EReal → EReal → EReal) _ _ _ = R
  unfold k0_pay3
  generalize k0_pay2 v = G at hR ⊢
  pointwise
  exact hR

theorem pay4_apply (v : Vec Ideal S8x8192 .f32) (t : Fin 8192) :
    k0_pay4 v (ix2 0 t) = Finset.fold IntOp.minsi 2147483647#32
      (fun i => if k0_pay2 v (ix2 i t) = k0_pay3 v (ix2 0 t) then BitVec.ofNat 32 i.val else 8#32) Finset.univ := by
  generalize hR : Finset.fold IntOp.minsi _ _ _ = R
  unfold k0_pay4
  generalize k0_pay3 v = M at hR ⊢
  generalize k0_pay2 v = G at hR ⊢
  pointwise
  exact hR

theorem pay5_apply (v : Vec Ideal S8x8192 .f32) (t : Fin 8192) :
    k0_pay5 v (ix2 0 t) = Ideal.div 1 (∑ i, Ideal.exp (k0_pay2 v (ix2 i t) - k0_pay3 v (ix2 0 t))) := by
  generalize hR : Ideal.div _ _ = R
  unfold k0_pay5
  generalize k0_pay3 v = M at hR ⊢
  generalize k0_pay2 v = G at hR ⊢
  pointwise
  exact hR

theorem pay6_apply (v a b c : Vec Ideal S8x8192 .f32) (e : Fin 8) (t : Fin 8192) :
    k0_pay6 v a b c (ix2 e t) = Scalar.select (IntOp.cmpi .eq (k0_pay4 v (ix2 0 t)) 2#32) (c (ix2 e t))
      (Scalar.select (IntOp.cmpi .eq (k0_pay4 v (ix2 0 t)) 1#32) (b (ix2 e t))
        (Scalar.select (IntOp.cmpi .eq (k0_pay4 v (ix2 0 t)) 0#32) (a (ix2 e t)) 0)) := by
  generalize hR : Scalar.select _ _ _ = R
  unfold k0_pay6
  generalize k0_pay4 v = M at hR ⊢
  pointwise
  exact hR

theorem pay7_apply (g : IVec S1x8192 32) (v : Vec Ideal S8x8192 .f32) (c : BitVec 32) (a : Vec Ideal S8x8192 .f32)
    (e : Fin 8) (t : Fin 8192) :
    k0_pay7 g v c a (ix2 e t) = Scalar.select (IntOp.cmpi .eq (g (ix2 0 t)) c) (a (ix2 e t)) (v (ix2 e t)) := by
  generalize hR : Scalar.select _ _ _ = R
  unfold k0_pay7
  pointwise
  exact hR

theorem pay8_apply (g : IVec S1x8192 32) (v : Vec Ideal S8x8192 .f32) (c : BitVec 32) (a : Vec Ideal S8x8192 .f32)
    (t : Fin 8192) : k0_pay8 g v c a (ix2 0 t) = Finset.fold max ⊥ (fun e => k0_pay7 g v c a (ix2 e t)) Finset.univ := by
  rw [← bits_bot]
  generalize hR : Finset.fold (max : EReal → EReal → EReal) _ _ _ = R
  unfold k0_pay8
  generalize k0_pay7 g v c a = G at hR ⊢
  pointwise
  exact hR

theorem pay9_apply (g : IVec S1x8192 32) (v : Vec Ideal S8x8192 .f32) (c : BitVec 32) (a : Vec Ideal S8x8192 .f32)
    (t : Fin 8192) :
    k0_pay9 (iota .tc S8x8192 32 [0] iota_S8x8192_d0_w32) g v c a (ix2 0 t) = Finset.fold IntOp.minsi 2147483647#32
      (fun e => if k0_pay7 g v c a (ix2 e t) = k0_pay8 g v c a (ix2 0 t) then BitVec.ofNat 32 e.val else 8#32) Finset.univ := by
  generalize hR : Finset.fold IntOp.minsi _ _ _ = R
  unfold k0_pay9
  generalize k0_pay8 g v c a = M at hR ⊢
  generalize k0_pay7 g v c a = G at hR ⊢
  pointwise
  exact hR

theorem pay10_apply (g : IVec S1x8192 32) (v : Vec Ideal S8x8192 .f32) (c : BitVec 32) (a : Vec Ideal S8x8192 .f32)
    (e : Fin 8) (t : Fin 8192) :
    k0_pay10 (iota .tc S8x8192 32 [0] iota_S8x8192_d0_w32) g v c a (ix2 e t)
      = Scalar.select (IntOp.cmpi .eq (BitVec.ofNat 32 e.val) (k0_pay9 (iota .tc S8x8192 32 [0] iota_S8x8192_d0_w32) g v c a (ix2 0 t)))
        ⊥ (k0_pay7 g v c a (ix2 e t)) := by
  rw [← bits_bot]
  generalize hR : Scalar.select _ _ _ = R
  unfold k0_pay10
  generalize k0_pay9 _ g v c a = M at hR ⊢
  generalize k0_pay7 g v c a = G at hR ⊢
  pointwise
  exact hR

theorem pay11_apply (w : IVec S8x8192 32) (g : IVec S1x8192 32) (v : Vec Ideal S8x8192 .f32) (c : BitVec 32)
    (a : Vec Ideal S8x8192 .f32) (t : Fin 8192) :
    k0_pay11 w g v c a (ix2 0 t) = Finset.fold max ⊥ (fun e => k0_pay10 w g v c a (ix2 e t)) Finset.univ := by
  rw [← bits_bot]
  generalize hR : Finset.fold (max : EReal → EReal → EReal) _ _ _ = R
  unfold k0_pay11
  generalize k0_pay10 w g v c a = G at hR ⊢
  pointwise
  exact hR

theorem pay13_zero (w : IVec S8x8192 32) (g : IVec S1x8192 32) (p : FVec Ideal S1x8192 .f32) (v : Vec Ideal S8x8192 .f32)
    (c : BitVec 32) (a : Vec Ideal S8x8192 .f32) (t : Fin 8192) :
    k0_pay13 w g p v c a (ix2 t 0) = Ideal.div (p (ix2 0 t))
      (1 + Ideal.exp (k0_pay11 w g v c a (ix2 0 t) - k0_pay8 g v c a (ix2 0 t))) := by
  generalize hR : Ideal.div _ _ = R
  unfold k0_pay13
  generalize k0_pay11 w g v c a = A at hR ⊢
  generalize k0_pay8 g v c a = B at hR ⊢
  pointwise
  exact hR

theorem pay13_one (w : IVec S8x8192 32) (g : IVec S1x8192 32) (p : FVec Ideal S1x8192 .f32) (v : Vec Ideal S8x8192 .f32)
    (c : BitVec 32) (a : Vec Ideal S8x8192 .f32) (t : Fin 8192) :
    k0_pay13 w g p v c a (ix2 t 1) = Ideal.div (p (ix2 0 t) * Ideal.exp (k0_pay11 w g v c a (ix2 0 t) - k0_pay8 g v c a (ix2 0 t)))
      (1 + Ideal.exp (k0_pay11 w g v c a (ix2 0 t) - k0_pay8 g v c a (ix2 0 t))) := by
  generalize hR : Ideal.div _ _ = R
  unfold k0_pay13
  generalize k0_pay11 w g v c a = A at hR ⊢
  generalize k0_pay8 g v c a = B at hR ⊢
  pointwise
  exact hR

theorem pay13_rest (w : IVec S8x8192 32) (g : IVec S1x8192 32) (p : FVec Ideal S1x8192 .f32) (v : Vec Ideal S8x8192 .f32)
    (c : BitVec 32) (a : Vec Ideal S8x8192 .f32) (t : Fin 8192) (j : Fin 128) (h : 2 ≤ j.val) :
    k0_pay13 w g p v c a (ix2 t j) = 0 := by
  unfold k0_pay13
  generalize k0_pay11 w g v c a = A
  generalize k0_pay8 g v c a = B
  generalize mulf p _ = C
  pointwise
  rw [dif_neg (by omega), dif_neg (by omega)]

/-- Eight rows from row `o` on. -/
def part (x : Vec Ideal S128x8192 .f32) (o : ℕ) (inb : ∀ a : Fin 2, ![o, 0] a + S8x8192.size a ≤ S128x8192.size a) :
    Vec Ideal S8x8192 .f32 := View.ld x (Rect.unit (s := S128x8192) ![o, 0] ![8, 8192] inb)

/-- The kernel's gates of the logits. -/
def gates (x : Vec Ideal S128x8192 .f32) : FVec Ideal S8192x128 .f32 :=
  k0_pay13 (iota .tc S8x8192 32 [0] iota_S8x8192_d0_w32)
    (k0_pay4 (part x 0 inb_S128x8192_S8x8192_0_0))
    (k0_pay5 (part x 0 inb_S128x8192_S8x8192_0_0))
    (k0_pay6 (part x 0 inb_S128x8192_S8x8192_0_0)
      (part x 8 inb_S128x8192_S8x8192_8_0)
      (part x 16 inb_S128x8192_S8x8192_16_0)
      (part x 24 inb_S128x8192_S8x8192_24_0))
    3#32 (part x 32 inb_S128x8192_S8x8192_32_0)

/-- What the one point writes. -/
theorem out2 (c : Dev nD) (t : Fin cfg0.N) (x : Vec Ideal S128x8192 .f32) :
    out0_A_2 c (ms0_0 t) (hs0_0 t) (ms0_1 t) (hs0_1 t) (ms0_2 t) (hs0_2 t) (ms0_3 t) (hs0_3 t) scM0_0 (Memref.isWhole_whole _) x
      = gates x := by
  generalize hR : gates x = R
  frame_out
  rw [read_unread_whole]
  exact hR

/-- Their entries. -/
theorem rows (x : Vec Ideal S128x8192 .f32) (o : ℕ) (ho : o + 8 ≤ 128) (inb) (e : Fin 8) (t : Fin 8192) :
    part x o inb (ix2 e t) = x (ix2 ⟨o + e.val, by omega⟩ t) := by
  refine congrArg x ?_
  funext a
  refine Fin.ext ?_
  match a with
  | ⟨0, _⟩ => show o + 1 * e.val = o + e.val; omega
  | ⟨1, _⟩ => show 0 + 1 * t.val = t.val; omega

/-- The block indices of the windows of the logits and of the gates. -/
theorem idx : ∀ t : Fin cfg0.N, win0_0.index t = ![0, 0] ∧ win0_2.index t = ![0, 0] :=
  (by decide +kernel : ∀ t : Fin grid0.N, _)

/-- The one block of the logits is all of them. -/
theorem iblk_eq (m : (ℓ : Loc nD τ sig) → Buf (Elt Ideal) ℓ) (c : Dev nD) (t : Fin cfg0.N) (y0 : Fin 128) (y1 : Fin 8192) :
    iblk m c 0 t (ix2 y0 y1) = m ((c : Thread nD τ).loc main_arg0) (ix2 y0 y1) := by
  blk_ext [iblk, V, idx t]

section value
variable (l : FVec Ideal S128x8192 .f32) (z : Fin 128 → Fin 8192 → ℝ) (hl : ∀ r t, l (ix2 r t) = (z r t : EReal))
include hl

/-- The kernel's gates: the best two experts' of the best group, then zeros. -/
theorem gates_real (t : Fin 8192) (j : Fin 128) :
    gates l (ix2 t j) = gate (grpLogits z t) (expLogits z t (grp (grpLogits z t))) j := by
  unfold gates
  have r0 := fun (e : Fin 8) (t : Fin 8192) => (rows l 0 (by decide) inb_S128x8192_S8x8192_0_0 e t).trans (hl _ t)
  have r1 := fun (e : Fin 8) (t : Fin 8192) => (rows l 8 (by decide) inb_S128x8192_S8x8192_8_0 e t).trans (hl _ t)
  have r2 := fun (e : Fin 8) (t : Fin 8192) => (rows l 16 (by decide) inb_S128x8192_S8x8192_16_0 e t).trans (hl _ t)
  have r3 := fun (e : Fin 8) (t : Fin 8192) => (rows l 24 (by decide) inb_S128x8192_S8x8192_24_0 e t).trans (hl _ t)
  have r4 := fun (e : Fin 8) (t : Fin 8192) => (rows l 32 (by decide) inb_S128x8192_S8x8192_32_0 e t).trans (hl _ t)
  generalize part l 0 inb_S128x8192_S8x8192_0_0 = x0 at r0 ⊢
  generalize part l 8 inb_S128x8192_S8x8192_8_0 = x1 at r1 ⊢
  generalize part l 16 inb_S128x8192_S8x8192_16_0 = x2 at r2 ⊢
  generalize part l 24 inb_S128x8192_S8x8192_24_0 = x3 at r3 ⊢
  generalize part l 32 inb_S128x8192_S8x8192_32_0 = x4 at r4 ⊢
  have h2 : ∀ i, k0_pay2 x0 (ix2 i t) = masked (grpLogits z t) i := by
    intro i
    rw [pay2_apply, r0]
    unfold masked
    by_cases h : i.val < 4
    · rw [if_pos h, dif_pos h]
      exact congrArg (fun q => (z q t : EReal)) (Fin.ext (Nat.zero_add _))
    · rw [if_neg h, dif_neg h]
  have h3 : k0_pay3 x0 (ix2 0 t) = (grpLogits z t (grp (grpLogits z t)) : EReal) := by
    rw [pay3_apply]
    simp only [h2]
    exact masked_max _
  have h4 : k0_pay4 x0 (ix2 0 t) = BitVec.ofNat 32 (grp (grpLogits z t)).val := by
    rw [pay4_apply]
    simp only [h2, h3]
    exact masked_first _
  have h5 : k0_pay5 x0 (ix2 0 t) = ((1 / total (grpLogits z t) : ℝ) : EReal) := by
    rw [pay5_apply]
    simp only [h2, h3]
    exact masked_total _
  have h7 : ∀ e, k0_pay7 (k0_pay4 x0) (k0_pay6 x0 x1 x2 x3) 3#32 x4 (ix2 e t)
      = (expLogits z t (grp (grpLogits z t)) e : EReal) := by
    intro e
    rw [pay7_apply, pay6_apply, h4, r1, r2, r3, r4]
    generalize grp (grpLogits z t) = g
    have hg : g = 0 ∨ g = 1 ∨ g = 2 ∨ g = 3 := by omega
    rcases hg with rfl | rfl | rfl | rfl
    · exact congrArg (fun q => (z q t : EReal)) (Fin.ext (by show 8 + e.val = 8 + (0 * 8 + e.val); omega))
    · exact congrArg (fun q => (z q t : EReal)) (Fin.ext (by show 16 + e.val = 8 + (1 * 8 + e.val); omega))
    · exact congrArg (fun q => (z q t : EReal)) (Fin.ext (by show 24 + e.val = 8 + (2 * 8 + e.val); omega))
    · exact congrArg (fun q => (z q t : EReal)) (Fin.ext (by show 32 + e.val = 8 + (3 * 8 + e.val); omega))
  generalize k0_pay6 x0 x1 x2 x3 = v at h7 ⊢
  generalize k0_pay4 x0 = g at h7 ⊢
  generalize k0_pay5 x0 = p at h5 ⊢
  generalize hx : expLogits z t (grp (grpLogits z t)) = x at h7 ⊢
  have h8 : k0_pay8 g v 3#32 x4 (ix2 0 t) = (x (fst x) : EReal) := by
    rw [pay8_apply]
    simp only [h7]
    exact experts_max x
  have h9 : k0_pay9 (iota .tc S8x8192 32 [0] iota_S8x8192_d0_w32) g v 3#32 x4 (ix2 0 t) = BitVec.ofNat 32 (fst x).val := by
    rw [pay9_apply]
    simp only [h7, h8]
    exact experts_first x
  have h10 : ∀ e, k0_pay10 (iota .tc S8x8192 32 [0] iota_S8x8192_d0_w32) g v 3#32 x4 (ix2 e t)
      = if e = fst x then ⊥ else (x e : EReal) := by
    intro e
    rw [pay10_apply, h9, h7]
    generalize fst x = s
    have hc : ∀ e s : Fin 8, IntOp.cmpi CmpIPredicate.eq (BitVec.ofNat 32 e.val) (BitVec.ofNat 32 s.val) = if e = s then 1#1 else 0#1 := by decide
    rw [hc]
    split <;> rfl
  have h11 : k0_pay11 (iota .tc S8x8192 32 [0] iota_S8x8192_d0_w32) g v 3#32 x4 (ix2 0 t) = (x (snd x) : EReal) := by
    rw [pay11_apply]
    simp only [h10]
    exact rest_max x
  unfold gate
  by_cases j0 : j = 0
  · rw [if_pos j0, j0, pay13_zero, h5, h8, h11]
    exact gate_zero x _
  · rw [if_neg j0]
    by_cases j1 : j = 1
    · rw [if_pos j1, j1, pay13_one, h5, h8, h11]
      exact gate_one x _
    · rw [if_neg j1]
      exact pay13_rest _ _ _ _ _ _ t j (by
        have a0 : j.val ≠ 0 := fun h => j0 (Fin.ext h)
        have a1 : j.val ≠ 1 := fun h => j1 (Fin.ext h)
        omega)

end value

/-- The one block of the gates is all of them. -/
theorem emb_eq (t : Fin cfg0.N) (y : S8192x128.Idx) : (win0_2.blk t).view.emb y = y := by
    funext a
    refine Fin.ext ?_
    match a with
    | ⟨0, _⟩ => exact (win0_2.rect_emb_val t y 0).trans (by rw [(idx t).2]; show 0 * 8192 + (y 0).val = (y 0).val; omega)
    | ⟨1, _⟩ => exact (win0_2.rect_emb_val t y 1).trans (by rw [(idx t).2]; show 0 * 128 + (y 1).val = (y 1).val; omega)

theorem iblk_whole (m : (ℓ : Loc nD τ sig) → Buf (Elt Ideal) ℓ) (c : Dev nD) (t : Fin cfg0.N) : (iblk m c 0 t : Vec Ideal S128x8192 .f32) = m ((c : Thread nD τ).loc main_arg0) := by
    funext q
    rw [eq_ix2 (n0 := 128) (n1 := 8192) q]
    exact iblk_eq m c t _ _

/-- What the one point leaves in the gates' block. -/
theorem outs_eq (m : (ℓ : Loc nD τ sig) → Buf (Elt Ideal) ℓ) (c : Dev nD) (t : Fin cfg0.N) (y : S8192x128.Idx) : (outsAt0 m c t).2.1 y = gates (m ((c : Thread nD τ).loc main_arg0)) y := by
  have e := out2 c t (iblk m c 0 t)
  have e' : (outsAt0 m c t).2.1 = out0_A_2 c (ms0_0 t) (hs0_0 t) (ms0_1 t) (hs0_1 t) (ms0_2 t) (hs0_2 t) (ms0_3 t) (hs0_3 t) scM0_0 (Memref.isWhole_whole _) (iblk m c 0 t) := by
    simp only [outsAt0]
  rw [e', e, iblk_whole m c t]

theorem final_of (m : (ℓ : Loc nD τ sig) → Buf (Elt Ideal) ℓ) (c : Dev nD) (G : S8192x128.Idx → EReal)
    (h : ∀ t y, (outsAt0 m c t).2.1 y = G y) :
    (dats m 0 c).arrAt 2 cfg0.N = fun i : S8192x128.Idx => G i := by
  refine (dats m 0 c).arrAt_eq_of_covers 2 _ (by decide +kernel) fun t _ y => ?_
  blk_simp
  rw [after0_2]
  exact (h t y).trans (congrArg G (emb_eq t y).symm)

/-- What the run leaves in the gates' array. -/
theorem final (m : (ℓ : Loc nD τ sig) → Buf (Elt Ideal) ℓ) (c : Dev nD) :
    (dats m 0 c).arrAt 2 cfg0.N = fun i : S8192x128.Idx => gates (m ((c : Thread nD τ).loc main_arg0)) i :=
  final_of m c _ (outs_eq m c)

end Cert.Kernel6Ideal.Route
-- ==== Proof.RoutePre.lean ====
/- Finite logits are real numbers. -/
module

public import proofs.«01_k».proof.Pre_finite_logits
public import Idealize.ShloMosaic.Lib.Pipeline.ValueKit
public import proofs.«01_k».proof.Proof.Route

@[expose] public section

noncomputable section

open Idealize.ShloMosaic

namespace Cert.Pre_finite_logits

theorem facts : Cert.Pre_finite_logits.Facts where
  bcast_S_S128x8192 := by decide

theorem real_of_finite [Cert.Pre_finite_logits.Facts] (x : FVec Ideal S128x8192 .f32) (h : fn (F := Ideal) x = fun _ => 1#1)
    (r : Fin 128) (t : Fin 8192) : ∃ z : ℝ, x (ix2 r t) = (z : EReal) := by
  have h := congrFun h (ix2 r t)
  have e : fn (F := Ideal) x (ix2 r t)
      = BitVec.ofBool (decide (FloatOps.absf (F := Ideal) (φ := .f32) (x (ix2 r t)) < Ideal.ofBits .f32 0x7F800000#32)) := by
    generalize hR : BitVec.ofBool _ = R
    unfold fn
    pointwise
    exact hR
  rw [e, Cert.Route.bits_top] at h
  generalize x (ix2 r t) = a at h
  have hlt : FloatOps.absf (F := Ideal) (φ := .f32) a < (⊤ : EReal) := by
    by_contra hn
    rw [decide_eq_false hn] at h
    exact absurd h (by decide)
  induction a using EReal.rec with
  | bot => exact absurd hlt (by show ¬ max (⊥ : EReal) (-⊥) < ⊤; simp)
  | top => exact absurd hlt (by show ¬ max (⊤ : EReal) (-⊤) < ⊤; simp)
  | coe z => exact ⟨z, rfl⟩

end Cert.Pre_finite_logits
-- ==== Proof.RouteRef.lean ====
/- The reference's gates, entry by entry, for real logits. -/
module

public import proofs.«01_k».proof.Proof.Gen.Reference6Ideal.Run
public import proofs.«01_k».proof.Proof.Route

@[expose] public section

set_option maxRecDepth 16384

noncomputable section

open Idealize.ShloMosaic Idealize.ShloMosaic.TcCoe Idealize.SL.Sem

namespace Cert.Reference6Ideal.Route
open Cert.Reference6Ideal Cert.Reference6Ideal.Gen

/-- The group logits, a row per token. -/
def groups (l : FVec Ideal S128x8192 .f32) : FVec Ideal S8192x4 .f32 :=
  transpose S8192x4 [1, 0] (extractStridedSlice S4x8192 ![0, 0] l slices_S128x8192_S4x8192_0_0) transposes_S4x8192_S8192x4_1_0

/-- The exponentials under the groups' softmax. -/
def groupExp (l : FVec Ideal S128x8192 .f32) : FVec Ideal S8192x4 .f32 :=
  Host.exp (subf (groups l) (broadcastInDim S8192x4 ![0, 1] bcast_S8192x1_S8192x4_0_1 (broadcastInDim S8192x1 ![0] bcast_S8192_S8192x1_0
    (maximumf (broadcastInDim S8192 ![] bcast_S_S8192 (constant S_ .f32 0xFF800000#32))
      (Host.reduce FloatOps.maximumf (groups l) (constant S_ .f32 0xFF800000#32) reducesTo_S8192x4_S8192_d1 h_S_)))))

/-- The groups' softmax. -/
def groupProb (l : FVec Ideal S128x8192 .f32) : FVec Ideal S8192x4 .f32 :=
  Host.divf (groupExp l) (broadcastInDim S8192x4 ![0, 1] bcast_S8192x1_S8192x4_0_1 (broadcastInDim S8192x1 ![0] bcast_S8192_S8192x1_0
    (Host.reduceAdd (groupExp l) (constant S_ .f32 0x00000000#32) reducesTo_S8192x4_S8192_d1 h_S_)))

/-- The greatest group probability and its group. -/
def topGroup (l : FVec Ideal S128x8192 .f32) : FVec Ideal S8192x1 .f32 × IVec S8192x1 32 :=
  Host.topK S8192x1 1 (FloatOps.cmpfTotal .gt) (groupProb l) sliceFits_S8192x4_S8192x1

/-- The group numbers as start indices of the gather. -/
def starts (g : IVec S8192x1 32) : IVec S8192x1x8x1 32 :=
  let ix := broadcastInDim S8192x1x8 ![0, 1, 2] bcast_S8192x1x1_S8192x1x8_0_1_2 (broadcastInDim S8192x1x1 ![0, 1] bcast_S8192x1_S8192x1x1_0_1 g)
  shapeCast _ (select (cmpi .slt ix (broadcastInDim S8192x1x8 ![] bcast_S_S8192x1x8 (constantI S_ 32 0#32)))
    (addi ix (broadcastInDim S8192x1x8 ![] bcast_S_S8192x1x8 (constantI S_ 32 4#32))) ix) shapeCasts_S8192x1x8_S8192x1x8x1

/-- The expert logits, by group. -/
def experts (l : FVec Ideal S128x8192 .f32) : FVec Ideal S8192x4x8 .f32 :=
  shapeCast _ (transpose S8192x32 [1, 0] (extractStridedSlice S32x8192 ![8, 0] l slices_S128x8192_S32x8192_8_0) transposes_S32x8192_S8192x32_1_0) shapeCasts_S8192x32_S8192x4x8

/-- Which start indices are in range. -/
def inRange (s : IVec S8192x1x8x1 32) : IVec S8192x1x8 1 :=
  Host.reduce IntOp.andi (andi (cmpi .sge s (broadcastInDim S8192x1x8x1 ![] bcast_S_S8192x1x8x1 (constantI S_ 32 0#32)))
    (cmpi .sle s (broadcastInDim S8192x1x8x1 ![0, 1, 2, 3] bcast_S1x1x1x1_S8192x1x8x1_0_1_2_3 (broadcastInDim S1x1x1x1 ![3] bcast_S1_S1x1x1x1_3 (constantI S1 32 3#32)))))
    (constantI S_ 1 1#1) reducesTo_S8192x1x8x1_S8192x1x8_d3 h_S_

/-- The chosen group's expert logits. -/
def chosen (l : FVec Ideal S128x8192 .f32) (g : IVec S8192x1 32) : FVec Ideal S8192x8 .f32 :=
  shapeCast _ (select (inRange (starts g))
    (Host.gather gather_S8192x4x8_S8192x1x8x1_S8192x1x8_n_1_02_02_1_3_111 (experts l) (starts g))
    (broadcastInDim S8192x1x8 ![] bcast_S_S8192x1x8 (constant S_ .f32 0x7FC00000#32))) shapeCasts_S8192x1x8_S8192x8

/-- The exponentials under the softmax of the two best. -/
def pairExp (v : FVec Ideal S8192x2 .f32) : FVec Ideal S8192x2 .f32 :=
  Host.exp (subf v (broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf v (constant S_ .f32 0xFF800000#32) reducesTo_S8192x2_S8192_d1 h_S_)))))

/-- The gates of the two best, before the zero columns. -/
def pairGate (v : FVec Ideal S8192x2 .f32) (p : FVec Ideal S8192x1 .f32) : FVec Ideal S8192x2 .f32 :=
  mulf (Host.divf (pairExp v) (broadcastInDim S8192x2 ![0, 1] bcast_S8192x1_S8192x2_0_1 (broadcastInDim S8192x1 ![0] bcast_S8192_S8192x1_0
    (Host.reduceAdd (pairExp v) (constant S_ .f32 0x00000000#32) reducesTo_S8192x2_S8192_d1 h_S_))))
    (broadcastInDim S8192x2 ![0, 1] bcast_S8192x1_S8192x2_0_1 p)

/-- The gates with the zero columns. -/
def gates (l : FVec Ideal S128x8192 .f32) : FVec Ideal S8192x128 .f32 :=
  pad S8192x128 ![0, 0] ![0, 126] ![0, 0]
    (pairGate (Host.topK S8192x2 1 (FloatOps.cmpfTotal .gt) (chosen l (topGroup l).2) sliceFits_S8192x8_S8192x2).1 (topGroup l).1)
    (sitofp .f32 (constantI S_ 32 0#32)) pads_S8192x2_S8192x128_000_01260 h_S_

/-- The reference's result is these gates. -/
theorem res_eq (m : (ℓ : Loc nD τ sig) → Buf (Elt Ideal) ℓ) (c : Dev nD) :
    Value.res_main_v33 m c = gates (m ((c.tc : Thread nD τ).loc main_arg0)) := rfl

theorem groups_apply (l : FVec Ideal S128x8192 .f32) (t : Fin 8192) (g : Fin 4) : groups l (ix2 t g) = l (ix2 ⟨g.val, by omega⟩ t) := by
  generalize hR : l _ = R
  unfold groups
  pointwise
  exact hR

theorem groupExp_apply (l : FVec Ideal S128x8192 .f32) (t : Fin 8192) (g : Fin 4) :
    groupExp l (ix2 t g) = Ideal.exp (groups l (ix2 t g)
      - max (Ideal.ofBits .f32 0xFF800000#32) (Finset.fold max (Ideal.ofBits .f32 0xFF800000#32) (fun a => groups l (ix2 t a)) Finset.univ)) := by
  generalize hR : Ideal.exp _ = R
  unfold groupExp
  generalize groups l = G at hR ⊢
  pointwise
  exact hR

theorem groupProb_apply (l : FVec Ideal S128x8192 .f32) (t : Fin 8192) (g : Fin 4) :
    groupProb l (ix2 t g) = Ideal.div (groupExp l (ix2 t g)) (∑ a, groupExp l (ix2 t a)) := by
  generalize hR : Ideal.div _ _ = R
  unfold groupProb
  generalize groupExp l = G at hR ⊢
  pointwise
  exact hR

theorem starts_apply (i : IVec S8192x1 32) (t : Fin 8192) (e : Fin 8) (g : Fin 4) (h : i (ix2 t 0) = BitVec.ofNat 32 g.val) :
    starts i (ix4 t 0 e 0) = BitVec.ofNat 32 g.val := by
  unfold starts
  pointwise
  rw [h]
  clear h
  revert g
  decide

theorem inRange_apply (i : IVec S8192x1x8x1 32) (t : Fin 8192) (e : Fin 8) (g : Fin 4) (h : i (ix4 t 0 e 0) = BitVec.ofNat 32 g.val) :
    inRange i (ix3 t 0 e) = 1#1 := by
  unfold inRange
  pointwise
  rw [Finset.univ_unique, Finset.fold_singleton, show (default : Fin 1) = 0 from rfl, h]
  clear h
  revert g
  decide

theorem experts_apply (l : FVec Ideal S128x8192 .f32) (t : Fin 8192) (g : Fin 4) (e : Fin 8) :
    experts l (ix3 t g e) = l (ix2 ⟨8 + (g.val * 8 + e.val), by omega⟩ t) := by
  generalize hR : l _ = R
  unfold experts
  pointwise
  exact hR

/-- The gather read at token `t` and expert `e`: the operand at the group the start index names. -/
theorem gather_apply (l : FVec Ideal S8192x4x8 .f32) (i : IVec S8192x1x8x1 32) (t : Fin 8192) (e : Fin 8) (g : Fin 4)
    (h : i (ix4 t 0 e 0) = BitVec.ofNat 32 g.val) :
    Host.gather gather_S8192x4x8_S8192x1x8x1_S8192x1x8_n_1_02_02_1_3_111 l i (ix3 t 0 e) = l (ix3 t g e) := by
  have b0 : (0 : Fin 3) ∈ ([0, 2] : List (Fin 3)) := by decide
  have b2 : (2 : Fin 3) ∈ ([0, 2] : List (Fin 3)) := by decide
  have n1 : (1 : Fin 3) ∉ ([0, 2] : List (Fin 3)) := by decide
  have c1 : (1 : Fin 3) ∈ ([1] : List (Fin 3)) := by decide
  unfold Host.gather
  congr 1
  funext a
  refine Fin.ext ?_
  show GatherDims.start _ _ i a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ b0, GatherDims.offCoord_eq_zero _ _ _ (fun h => ((GatherDims.mem_sKept _ _).mp h).2 b0)]
    simp only [Nat.zero_add, Nat.add_zero]
    unfold GatherDims.batchCoord
    exact (dif_pos b0).trans rfl
  · rw [GatherDims.batchCoord_eq_zero _ _ _ n1, GatherDims.offCoord_eq_zero _ _ _ (fun h => ((GatherDims.mem_sKept _ _).mp h).1 c1)]
    simp only [Nat.add_zero]
    unfold GatherDims.start
    refine (dif_pos c1).trans ?_
    have hsi : (gather_S8192x4x8_S8192x1x8x1_S8192x1x8_n_1_02_02_1_3_111).siIdx (ix3 t 0 e)
        ⟨List.idxOf (1 : Fin 3) [1], List.idxOf_lt_length_iff.2 c1⟩ = ix4 t 0 e 0 := by
      funext b; refine Fin.ext ?_
      match b with
      | ⟨0, _⟩ => rfl
      | ⟨1, _⟩ => rfl
      | ⟨2, _⟩ => rfl
      | ⟨3, _⟩ => rfl
    refine (congrArg (fun q => min (i q).toInt.toNat (4 - 1)) hsi).trans ?_
    rw [h]
    show min (BitVec.ofNat 32 g.val).toInt.toNat (4 - 1) = g.val
    clear hsi h
    revert g
    decide
  · rw [GatherDims.start_batching _ _ _ _ b2, GatherDims.offCoord_eq_zero _ _ _ (fun h => ((GatherDims.mem_sKept _ _).mp h).2 b2)]
    simp only [Nat.zero_add, Nat.add_zero]
    unfold GatherDims.batchCoord
    exact (dif_pos b2).trans rfl

theorem chosen_apply (l : FVec Ideal S128x8192 .f32) (i : IVec S8192x1 32) (t : Fin 8192) (e : Fin 8) (g : Fin 4)
    (h : i (ix2 t 0) = BitVec.ofNat 32 g.val) : chosen l i (ix2 t e) = l (ix2 ⟨8 + (g.val * 8 + e.val), by omega⟩ t) := by
  have hs := starts_apply i t e g h
  refine Eq.trans ?_ ((gather_apply (experts l) (starts i) t e g hs).trans (experts_apply l t g e))
  unfold chosen
  generalize Host.gather _ _ _ = G
  have hr := inRange_apply (starts i) t e g hs
  generalize inRange (starts i) = N at hr ⊢
  generalize hR : G (ix3 t 0 e) = R
  pointwise
  rw [hr, hR]
  rfl

theorem pairExp_apply (v : FVec Ideal S8192x2 .f32) (t : Fin 8192) (j : Fin 2) :
    pairExp v (ix2 t j) = Ideal.exp (v (ix2 t j)
      - max (Ideal.ofBits .f32 0xFF800000#32) (Finset.fold max (Ideal.ofBits .f32 0xFF800000#32) (fun a => v (ix2 t a)) Finset.univ)) := by
  generalize hR : Ideal.exp _ = R
  unfold pairExp
  pointwise
  exact hR

theorem pairGate_apply (v : FVec Ideal S8192x2 .f32) (p : FVec Ideal S8192x1 .f32) (t : Fin 8192) (j : Fin 2) :
    pairGate v p (ix2 t j) = Ideal.div (pairExp v (ix2 t j)) (∑ a, pairExp v (ix2 t a)) * p (ix2 t 0) := by
  generalize hR : Ideal.div _ _ * _ = R
  unfold pairGate
  generalize pairExp v = G at hR ⊢
  pointwise
  exact hR

section value
open Cert.Route
variable (l : FVec Ideal S128x8192 .f32) (z : Fin 128 → Fin 8192 → ℝ) (hl : ∀ r t, l (ix2 r t) = (z r t : EReal))
include hl

theorem groupExp_real (t : Fin 8192) (g : Fin 4) :
    groupExp l (ix2 t g) = Ideal.exp ((grpLogits z t g : EReal) - (grpLogits z t (grp (grpLogits z t)) : EReal)) := by
  rw [groupExp_apply]
  simp only [groups_apply, hl, bits_bot]
  rw [groups_max (grpLogits z t), max_eq_right bot_le]

theorem groupProb_real (t : Fin 8192) (g : Fin 4) :
    groupProb l (ix2 t g) = ((Real.exp (grpLogits z t g - grpLogits z t (grp (grpLogits z t))) / total (grpLogits z t) : ℝ) : EReal) := by
  rw [groupProb_apply]
  simp only [groupExp_real l z hl]
  exact prob_real (grpLogits z t) g

theorem topGroup_real (t : Fin 8192) :
    (topGroup l).1 (ix2 t 0) = ((1 / total (grpLogits z t) : ℝ) : EReal)
    ∧ (topGroup l).2 (ix2 t 0) = BitVec.ofNat 32 (grp (grpLogits z t)).val := by
  have key := topK_apply (groupProb l) sliceFits_S8192x4_S8192x1 t 0 (by decide)
  have e : (above fun a => groupProb l (ix2 t a)) = above fun g => (grpLogits z t g : EReal) := by
    rw [← above_prob (grpLogits z t)]
    simp only [groupProb_real l z hl]
  rw [e] at key
  refine ⟨key.1.trans ?_, key.2⟩
  rw [groupProb_real l z hl]
  refine congrArg _ ?_
  show Real.exp (grpLogits z t (grp (grpLogits z t)) - _) / _ = _
  rw [sub_self, Real.exp_zero]

theorem best_real (t : Fin 8192) (j : Fin 2) :
    (Host.topK S8192x2 1 (FloatOps.cmpfTotal .gt) (chosen l (topGroup l).2) sliceFits_S8192x8_S8192x2).1 (ix2 t j)
      = (best (expLogits z t (grp (grpLogits z t))) j : EReal) := by
  have hc : ∀ e, chosen l (topGroup l).2 (ix2 t e) = (expLogits z t (grp (grpLogits z t)) e : EReal) := fun e =>
    (chosen_apply l _ t e _ (topGroup_real l z hl t).2).trans (hl _ _)
  have key := (topK_apply (chosen l (topGroup l).2) sliceFits_S8192x8_S8192x2 t j (by omega)).1
  refine key.trans ?_
  simp only [hc]
  have hj : j = 0 ∨ j = 1 := by omega
  rcases hj with rfl | rfl <;> rfl

/-- The reference's gates: the best two experts' of the best group, then zeros. -/
theorem gates_real (t : Fin 8192) (j : Fin 128) :
    gates l (ix2 t j) = gate (grpLogits z t) (expLogits z t (grp (grpLogits z t))) j := by
  have hg : ∀ q : Fin 2, pairGate (Host.topK S8192x2 1 (FloatOps.cmpfTotal .gt) (chosen l (topGroup l).2) sliceFits_S8192x8_S8192x2).1
      (topGroup l).1 (ix2 t q) = if q = 0
        then ((1 / total (grpLogits z t) / (1 + ratio (expLogits z t (grp (grpLogits z t)))) : ℝ) : EReal)
        else ((1 / total (grpLogits z t) * ratio (expLogits z t (grp (grpLogits z t))) / (1 + ratio (expLogits z t (grp (grpLogits z t)))) : ℝ) : EReal) := by
    intro q
    rw [pairGate_apply]
    simp only [pairExp_apply, best_real l z hl, bits_bot, best_max, (topGroup_real l z hl t).1]
    exact best_gate _ _ q
  unfold gates
  generalize pairGate _ _ = G at hg ⊢
  generalize hR : gate _ _ _ = R
  pointwise
  rw [← hR]
  unfold gate
  have h0 : FloatOps.sitofp (F := Ideal) FTy.f32 0#32 = (0 : EReal) := by
    show (((0#32 : BitVec 32).toInt : ℝ) : EReal) = 0
    simp
  by_cases hj : j.val < 2
  · rw [dif_pos hj, hg]
    have : j = 0 ∨ j = 1 := by omega
    rcases this with rfl | rfl <;> simp
  · rw [dif_neg hj, h0, if_neg (by rintro rfl; exact hj (by decide)), if_neg (by rintro rfl; exact hj (by decide))]

end value

end Cert.Reference6Ideal.Route
-- ==== Proof.Router.lean ====
/- The router's logits as entries, and the sums over split factors that they come from. -/
module

public import proofs.«01_k».proof.Proof.MergePoint
public import Idealize.ShloMosaic.Lib.Pipeline.ValueKit

@[expose] public section

noncomputable section

open Idealize.ShloMosaic

namespace Cert.Router

/-- Column `j` of the router's weights: the experts' in columns 8 to 39, the groups' in columns 0 to 3, else zero. -/
def weight (wg : FVec Ideal ⟨3, ![1, 2048, 4]⟩ .f32) (we : FVec Ideal ⟨4, ![1, 2048, 4, 8]⟩ .f32) (k : Fin 2048) (j : Fin 128) : EReal :=
  if h : 8 ≤ j.val ∧ j.val < 40 then we (ix4 0 k ⟨(j.val - 8) / 8, by omega⟩ ⟨(j.val - 8) % 8, by omega⟩)
  else if h : j.val < 4 then wg (ix3 0 k ⟨j.val, h⟩) else 0

/-- Entry `j` of the router's biases, placed likewise. -/
def bias (bg : FVec Ideal ⟨2, ![1, 4]⟩ .f32) (be : FVec Ideal ⟨3, ![1, 4, 8]⟩ .f32) (j : Fin 128) : EReal :=
  if h : 8 ≤ j.val ∧ j.val < 40 then be (ix3 0 ⟨(j.val - 8) / 8, by omega⟩ ⟨(j.val - 8) % 8, by omega⟩)
  else if h : j.val < 4 then bg (ix2 0 ⟨j.val, h⟩) else 0

/-- 2048's word. -/
theorem bits_2048 : Ideal.ofBits FTy.f32 0x45000000#32 = ((2048 : ℝ) : EReal) := by
  simp [Ideal.ofBits, Ideal.ieee]
  rw [← EReal.coe_mul]
  norm_num

/-- The word of what is added to the mean square, a positive real. -/
theorem bits_eps : ∃ e : ℝ, 0 < e ∧ Ideal.ofBits FTy.f32 0x358637BD#32 = (e : EReal) := by
  simp [Ideal.ofBits, Ideal.ieee]
  refine ⟨_, ?_, rfl⟩
  positivity

/-- A square is not negative. -/
theorem sq_nonneg (x : EReal) : 0 ≤ x * x := by
  induction x using EReal.rec with
  | bot => simp
  | top => simp
  | coe r => exact_mod_cast mul_self_nonneg r

/-- A sum of reals is the real sum. -/
theorem sum_coe {n : Nat} (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- A row divided by its root mean square is real, whatever the row: an infinite entry makes the root infinite. -/
theorem normed_real (row : Fin 2048 → EReal) (s : ℝ) (c : Fin 2048) :
    ∃ z : ℝ, Cert.Merge.normed row (s : EReal) c = (z : EReal) := by
  obtain ⟨e, he, hb⟩ := bits_eps
  unfold Cert.Merge.normed
  rw [hb, bits_2048]
  by_cases h : ∃ k, row k * row k = ⊤
  · obtain ⟨k, hk⟩ := h
    have hs : ∑ k, row k * row k = ⊤ := by
      rw [← Finset.add_sum_erase _ _ (Finset.mem_univ k), hk]
      exact EReal.top_add_of_ne_bot (ne_of_gt (lt_of_lt_of_le EReal.bot_lt_zero (Finset.sum_nonneg fun i _ => sq_nonneg _)))
    have hd : Ideal.div ⊤ ((2048 : ℝ) : EReal) = ⊤ := by
      unfold Ideal.div
      rw [if_neg (by norm_num), ← EReal.coe_inv]
      exact EReal.top_mul_coe_of_pos (by norm_num)
    rw [hs, hd, EReal.top_add_coe, Ideal.rsqrt_top, mul_zero, zero_mul]
    exact ⟨0, rfl⟩
  · have hr : ∀ k, ∃ r : ℝ, row k = (r : EReal) := fun k => by
      have hk : row k * row k ≠ ⊤ := fun q => h ⟨k, q⟩
      generalize row k = x at hk
      induction x using EReal.rec with
      | bot => exact absurd (by simp) hk
      | top => exact absurd (by simp) hk
      | coe r => exact ⟨r, rfl⟩
    choose r hr using hr
    have hd : Ideal.div (∑ k, row k * row k) ((2048 : ℝ) : EReal) = (((∑ k, r k * r k) * (2048 : ℝ)⁻¹ : ℝ) : EReal) := by
      unfold Ideal.div
      rw [if_neg (by norm_num), ← EReal.coe_inv]
      simp only [hr, ← EReal.coe_mul]
      rw [sum_coe, ← EReal.coe_mul]
    have hp : 0 < (∑ k, r k * r k) * (2048 : ℝ)⁻¹ + e :=
      add_pos_of_nonneg_of_pos (mul_nonneg (Finset.sum_nonneg fun k _ => mul_self_nonneg _) (by norm_num)) he
    rw [hd, ← EReal.coe_add, Ideal.rsqrt_coe, if_neg (not_lt.2 hp.le), if_neg hp.ne', hr, ← EReal.coe_mul, ← EReal.coe_mul]
    exact ⟨_, rfl⟩

/-- The product of rows and weights that are split into themselves and a zero rest. -/
theorem split_sum {n : Nat} (h w : Fin n → EReal) (hh : ∀ k, ∃ r : ℝ, h k = (r : EReal)) (hw : ∀ k, ∃ r : ℝ, w k = (r : EReal)) :
    (∑ k, h k * w k) + ((∑ k, (h k - h k) * w k) + ∑ k, h k * (w k - w k)) = ∑ k, h k * w k := by
  have z : ∀ x : EReal, (∃ r : ℝ, x = (r : EReal)) → x - x = 0 := fun x ⟨r, hr⟩ => by
    rw [hr, ← EReal.coe_sub, sub_self]; rfl
  have z1 : ∑ k, (h k - h k) * w k = 0 := Finset.sum_eq_zero fun k _ => by rw [z _ (hh k), zero_mul]
  have z2 : ∑ k, h k * (w k - w k) = 0 := Finset.sum_eq_zero fun k _ => by rw [z _ (hw k), mul_zero]
  rw [z1, z2, add_zero, add_zero]

end Cert.Router
-- ==== Proof.RouterScatter.lean ====
/- Columns written into a matrix from a column on. -/
module

public import Idealize.ShloMosaic.Lib.Pipeline.ValueKit
public import Idealize.ShloMosaic.Lib.Routing.OpsOne

@[expose] public section

noncomputable section

open Idealize.ShloMosaic Idealize.ShloMosaic.Routing

namespace Cert.Router

/-- Entry `(a, b)` of the written columns lands at `(r, c)` exactly when `a` is `r` and the first column plus `b` is `c`. -/
theorem lands_columns {R C U w : Nat} (d : ScatterDims (shape2 R C) (shape1 1) (shape2 R U)) (huw : d.updateWindowDims = [0, 1])
    (hiw : d.insertedWindowDims = []) (hsd : d.scatterDimsToOperandDims = [1]) (idx : IVec (shape1 1) w)
    (a : Fin R) (b : Fin U) (r : Fin R) (c : Fin C) :
    d.resultIdx? (ix2 a b) idx = some (ix2 r c) ↔ a.val = r.val ∧ (idx (ix1 0)).toInt + (b.val : Int) = c.val := by
  have hm : (1 : Fin 2) ∈ d.scatterDimsToOperandDims := by rw [hsd]; exact List.mem_singleton.2 rfl
  have hkept : d.sKept = [0, 1] := by
    show (shape2 R C).kept d.insertedWindowDims = _
    rw [hiw]
    rfl
  have hq : ∀ q : Fin 2, q ∈ d.sKept := fun q => by rw [hkept]; fin_cases q <;> simp
  have pick : ∀ (l : List (Fin 2)) (n : Nat) (hn : n < l.length) (q : Fin 2), l = [0, 1] → n = q.val → l[n] = q := by
    intro l n hn q hl e
    subst hl e
    fin_cases q <;> rfl
  have hwin : ∀ q : Fin 2, d.window (ix2 a b) q = ((ix2 a b : (shape2 R U).Idx) q).val := fun q => by
    unfold ScatterDims.window
    rw [dif_pos (hq q)]
    refine congrArg (fun t => ((ix2 a b : (shape2 R U).Idx) t).val) (pick _ _ _ q huw ?_)
    rw [hkept]
    fin_cases q <;> rfl
  have hstart0 : d.start (ix2 a b) idx 0 = 0 := by
    unfold ScatterDims.start
    rw [dif_neg fun h => by rw [hsd] at h; exact absurd (List.mem_singleton.1 h) (by decide : (0 : Fin 2) ≠ 1)]
  have hstart1 : d.start (ix2 a b) idx 1 = (idx (ix1 0)).toInt := by
    unfold ScatterDims.start
    rw [dif_pos hm]
    have hsi : d.siIdx (ix2 a b) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi]
  refine (resultIdx?_ix2 d (ix2 a b) idx r c).trans ?_
  rw [hstart0, hstart1, hwin 0, hwin 1]
  show (0 : Int) + (a.val : Int) = r.val ∧ _ + (b.val : Int) = c.val ↔ _
  omega

/-- Columns written from column `o` on: theirs there, the matrix's elsewhere. -/
theorem scatter_columns {α : Type} {R C U w : Nat} (d : ScatterDims (shape2 R C) (shape1 1) (shape2 R U)) (huw : d.updateWindowDims = [0, 1])
    (hiw : d.insertedWindowDims = []) (hsd : d.scatterDimsToOperandDims = [1]) (x : (shape2 R C).Idx → α) (idx : IVec (shape1 1) w)
    (v : (shape2 R U).Idx → α) (o : Nat) (ho : (idx (ix1 0)).toInt = o) (r : Fin R) (c : Fin C) :
    Host.scatter d (fun _ b => b) x idx v (ix2 r c)
      = if h : o ≤ c.val ∧ c.val < o + U then v (ix2 r ⟨c.val - o, by omega⟩) else x (ix2 r c) := by
  have lands : ∀ k : (shape2 R U).Idx, d.resultIdx? k idx = some (ix2 r c) → (k 0).val = r.val ∧ (o : Int) + ((k 1).val : Int) = c.val :=
    fun k hk => ho ▸ (lands_columns d huw hiw hsd idx (k 0) (k 1) r c).1 ((congrArg (fun t => d.resultIdx? t idx) (eq_ix2 k).symm).trans hk)
  by_cases h : o ≤ c.val ∧ c.val < o + U
  · rw [dif_pos h]
    refine scatter_set_hit d x idx v _ _ (fun k hk => ?_) (ix2 r ⟨c.val - o, by omega⟩) ((lands_columns d huw hiw hsd idx _ _ r c).2 ⟨rfl, ?_⟩)
    · obtain ⟨q0, q1⟩ := lands k hk
      rw [eq_ix2 k]
      exact congrArg₂ (fun s t => v (ix2 s t)) (Fin.ext q0) (Fin.ext (show (k 1).val = c.val - o by omega))
    · rw [ho]
      show (o : Int) + ((c.val - o : Nat) : Int) = c.val
      omega
  · rw [dif_neg h]
    refine scatter_set_miss d x idx v _ fun k hk => h ?_
    obtain ⟨q0, q1⟩ := lands k hk
    have hlt : (k 1).val < U := (k 1).isLt
    omega

/-- Entries written into a one-column matrix from row `o` on: theirs there, the matrix's elsewhere. -/
theorem scatter_rows {α : Type} {R U w : Nat} (d : ScatterDims (shape2 R 1) (shape1 2) (shape1 U)) (hU : 0 < U) (hiw : d.insertedWindowDims = [1])
    (hsd : d.scatterDimsToOperandDims = [0, 1]) (hivd : d.indexVectorDim = 0) (x : (shape2 R 1).Idx → α) (idx : IVec (shape1 2) w)
    (v : (shape1 U).Idx → α) (o : Nat) (ho : (idx (ix1 0)).toInt = o) (h1 : (idx (ix1 1)).toInt = 0) (r : Fin R) :
    Host.scatter d (fun _ b => b) x idx v (ix2 r 0)
      = if h : o ≤ r.val ∧ r.val < o + U then v (ix1 ⟨r.val - o, by omega⟩) else x (ix2 r 0) := by
  refine (scatter_column_signed d hU hiw hsd hivd x idx v (ix2 r 0)).trans ?_
  change (if (idx (ix1 1)).toInt = ((0 : Nat) : Int) ∧ (idx (ix1 0)).toInt ≤ (r.val : Int) ∧ (r.val : Int) < (idx (ix1 0)).toInt + U
    then v (ix1 ⟨((r.val : Int) - (idx (ix1 0)).toInt).toNat % U, Nat.mod_lt _ hU⟩) else x (ix2 r 0)) = _
  simp only [ho, h1]
  show (if (0 : Int) = ((0 : Nat) : Int) ∧ (o : Int) ≤ (r.val : Int) ∧ (r.val : Int) < o + U
    then v (ix1 ⟨((r.val : Int) - o).toNat % U, Nat.mod_lt _ hU⟩) else x (ix2 r 0)) = _
  by_cases h : o ≤ r.val ∧ r.val < o + U
  · rw [dif_pos h, if_pos (by omega)]
    refine congrArg (fun t => v (ix1 t)) (Fin.ext ?_)
    show ((r.val : Int) - o).toNat % U = r.val - o
    rw [show ((r.val : Int) - o).toNat = r.val - o by omega]
    exact Nat.mod_eq_of_lt (by omega)
  · rw [dif_neg h, if_neg (by omega)]

end Cert.Router
-- ==== Proof.RouterKernel.lean ====
/- The router's logits that the gated merge also returns: the run's third result array, entry by entry. -/
module

public import proofs.«01_k».proof.Proof.Gen.Kernel7Ideal.Value
public import proofs.«01_k».proof.Proof.Router
public import proofs.«01_k».proof.Proof.RouterScatter

@[expose] public section

set_option maxRecDepth 16384

noncomputable section

open Idealize.ShloMosaic Idealize.ShloMosaic.TcCoe Idealize.SL.Sem

namespace Cert.Kernel7Ideal.Router
open Cert.Kernel7Ideal Cert.Kernel7Ideal.Gen

variable (m : (ℓ : Loc nD τ sig) → Buf (Elt Ideal) ℓ)

/-- The block indices of the windows that the result reads or writes, at every point. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0] ∧ win0_6.index t = ![0, 0]
    ∧ win0_7.index t = ![0, 0] ∧ win0_8.index t = ![0, 0] ∧ win0_9.index t = ![0, 0, 0] ∧ win0_10.index t = ![0, 0]
    ∧ win0_13.index t = ![0, t.val] ∧ t.val < 32 :=
  (by decide +kernel : ∀ t : Fin grid0.N, _)

/-- The residual rows over the launched arrays. -/
abbrev X2 (c : Dev nD) (r : Fin 8192) (k : Fin 2048) : EReal :=
  Cert.Merge.x2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r k

/-- The normalized rows over the launched arrays. -/
abbrev H2 (c : Dev nD) (r : Fin 8192) (k : Fin 2048) : EReal :=
  Cert.Merge.normed (X2 m c r) (m ((c : Thread nD τ).loc main_arg7) (ix2 0 k)) k

/-- The router's weights over the launched arrays. -/
abbrev W (c : Dev nD) (k : Fin 2048) (j : Fin 128) : EReal :=
  Cert.Router.weight (m ((c : Thread nD τ).loc main_arg8)) (m ((c : Thread nD τ).loc main_arg10)) k j

/-- What the body computes from a point's blocks, at row `a` of the block and column `b`. -/
theorem point_x2 (c : Dev nD) (t : Fin cfg0.N) (a : Fin 256) (b : Fin 2048) :
    k0_pay2 (iblk m c 0 t) (iblk m c 5 t) (iblk m c 1 t) (iblk m c 6 t) (iblk m c 2 t) (iblk m c 3 t) (iblk m c 4 t)
      (iblk m c 7 t) (ix2 a b)
    = X2 m c ⟨256 * t.val + a.val, by have := (idx t).2.2.2.2.2.2.2.2.2.2.2.2; omega⟩ b := by
  unfold X2 Cert.Merge.x2
  pointwise [k0_pay2]
  blk_point [iblk, V, idx t]

/-- The residual rows at row `a` of a point's block. -/
theorem point (c : Dev nD) (t : Fin cfg0.N) (a : Fin 256) (b : Fin 2048) (r : Fin 8192) (hr : r.val = 256 * t.val + a.val) :
    k0_pay6 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 a b) = X2 m c r b := by
  unfold k0_pay6
  frame_out
  exact (point_x2 m c t a b).trans (congrArg (fun r => X2 m c r b) (Fin.ext hr.symm))

/-- The scales' block at a point, read in the scales. -/
theorem scale (c : Dev nD) (t : Fin cfg0.N) (b : Fin 2048) :
    iblk m c 8 t (ix2 0 b) = m ((c : Thread nD τ).loc main_arg7) (ix2 0 b) := by
  blk_simp [iblk]
  entry_read
  pointwise
  blk_point [iblk, V, idx t]

/-- What the body computes of normalized rows, given the block of residual rows. -/
theorem payload_h2 (x2 : Vec Ideal S256x2048 .f32) (nf : Vec Ideal S1x2048 .f32) (a : Fin 256) (b : Fin 2048) :
    k0_pay3 (F := Ideal) x2 nf (ix2 a b) = Cert.Merge.normed (fun k => x2 (ix2 a k)) (nf (ix2 0 b)) b := by
  unfold Cert.Merge.normed
  pointwise [k0_pay3]

/-- The products that the body sums, given the blocks: the normalized rows and their rest against the weights and theirs. -/
theorem payload_products (x2 : Vec Ideal S256x2048 .f32) (nf : Vec Ideal S1x2048 .f32) (w0 w1 : Vec Ideal S1x2048x128 .bf16)
    (j : Fin 128) (a : Fin 256) :
    k0_pay4 (F := Ideal) x2 nf w0 w0 w1 (ix2 j a)
    = (∑ k, k0_pay3 (F := Ideal) x2 nf (ix2 a k) * w0 (ix3 0 k j))
      + ((∑ k, (k0_pay3 (F := Ideal) x2 nf (ix2 a k) - k0_pay3 (F := Ideal) x2 nf (ix2 a k)) * w0 (ix3 0 k j))
        + ∑ k, k0_pay3 (F := Ideal) x2 nf (ix2 a k) * w1 (ix3 0 k j)) := by
  unfold k0_pay4
  generalize k0_pay3 (F := Ideal) x2 nf = h
  pointwise

end Cert.Kernel7Ideal.Router
-- ==== Proof.RouterHost.lean ====
/- The router's weights and biases as the host lays them out, entry by entry. -/
module

public import proofs.«01_k».proof.Proof.RouterKernel

@[expose] public section

set_option maxRecDepth 100000

noncomputable section

open Idealize.ShloMosaic Idealize.ShloMosaic.TcCoe Idealize.SL.Sem

namespace Cert.Kernel7Ideal.Router
open Cert.Kernel7Ideal Cert.Kernel7Ideal.Gen

/-- The groups' weights written over zeros from column 0 on, the experts' over them from column 8 on. -/
def laid (wg : FVec Ideal S1x2048x4 .f32) (we : FVec Ideal S1x2048x4x8 .f32) : FVec Ideal S2048x128 .f32 :=
  Host.scatter scatter_S2048x128_S1_S2048x32_01_n_1_0 (fun _ b => b)
    (Host.scatter scatter_S2048x128_S1_S2048x4_01_n_1_0 (fun _ b => b)
      (broadcastInDim S2048x128 ![] bcast_S_S2048x128 (constant S_ FTy.f32 0#32))
      (broadcastInDim S1 ![] bcast_S_S1 (constantI S_ 32 0#32))
      (shapeCast S2048x4 wg shapeCasts_S1x2048x4_S2048x4))
    (broadcastInDim S1 ![] bcast_S_S1 (constantI S_ 32 8#32))
    (shapeCast S2048x32 (shapeCast S2048x4x8 we shapeCasts_S1x2048x4x8_S2048x4x8) shapeCasts_S2048x4x8_S2048x32)

/-- Their entries. -/
theorem laid_entry (wg : FVec Ideal S1x2048x4 .f32) (we : FVec Ideal S1x2048x4x8 .f32) (k : Fin 2048) (j : Fin 128) :
    laid wg we (ix2 k j) = Cert.Router.weight wg we k j := by
  unfold laid Cert.Router.weight
  refine (Cert.Router.scatter_columns _ rfl rfl rfl _ _ _ 8 (by rfl) k j).trans ?_
  by_cases h : 8 ≤ j.val ∧ j.val < 8 + 32
  · have h' : 8 ≤ j.val ∧ j.val < 40 := h
    rw [dif_pos h, dif_pos h']
    generalize hR : we (ix4 0 k _ _) = R
    change shapeCast _ _ _ (ix2 k ⟨j.val - 8, _⟩) = _
    pointwise
    exact hR
  · have h' : ¬ (8 ≤ j.val ∧ j.val < 40) := h
    rw [dif_neg h, dif_neg h']
    refine (Cert.Router.scatter_columns _ rfl rfl rfl _ _ _ 0 (by rfl) k j).trans ?_
    by_cases g : 0 ≤ j.val ∧ j.val < 0 + 4
    · have g' : j.val < 4 := by omega
      rw [dif_pos g, dif_pos g']
      generalize hR : wg (ix3 0 k _) = R
      change shapeCast _ _ _ (ix2 k ⟨j.val - 0, _⟩) = _
      pointwise
      exact hR
    · have g' : ¬ j.val < 4 := by omega
      rw [dif_neg g, dif_neg g']
      change broadcastInDim _ _ _ _ (ix2 k j) = _
      pointwise

variable (m : (ℓ : Loc nD τ sig) → Buf (Elt Ideal) ℓ)

/-- Such weights and what rounding them leaves, one above the other. -/
def planes (w : FVec Ideal S2048x128 .f32) : FVec Ideal S2x2048x128 .bf16 :=
  concatenate S2x2048x128 0
    [⟨S1x2048x128, broadcastInDim S1x2048x128 ![1, 2] bcast_S2048x128_S1x2048x128_1_2 (truncf FTy.bf16 w bitsLt_bf16_f32)⟩,
     ⟨S1x2048x128, broadcastInDim S1x2048x128 ![1, 2] bcast_S2048x128_S1x2048x128_1_2
        (truncf FTy.bf16 (subf w (extf FTy.f32 (truncf FTy.bf16 w bitsLt_bf16_f32) bitsLt_bf16_f32)) bitsLt_bf16_f32)⟩]
    concatenates_S1x2048x128_S1x2048x128_S2x2048x128_d0

/-- The upper ones' entries. -/
theorem planes_0 (w : FVec Ideal S2048x128 .f32) (k : Fin 2048) (j : Fin 128) : planes w (ix3 0 k j) = w (ix2 k j) := by
  generalize hR : w (ix2 k j) = R
  unfold planes
  pointwise
  exact hR

/-- The lower ones' entries. -/
theorem planes_1 (w : FVec Ideal S2048x128 .f32) (k : Fin 2048) (j : Fin 128) :
    planes w (ix3 1 k j) = w (ix2 k j) - w (ix2 k j) := by
  generalize hR : w (ix2 k j) - w (ix2 k j) = R
  unfold planes
  pointwise
  exact hR

set_option maxHeartbeats 4000000 in
/-- The weights that the body multiplies by. -/
theorem entry (c : Dev nD) :
    V m c main_v16 = planes (laid (m ((c : Thread nD τ).loc main_arg8)) (m ((c : Thread nD τ).loc main_arg10))) := by
  generalize hR : planes _ = R
  entry_read
  rw [← hR]
  unfold planes laid
  rfl

/-- The one block of the weights is all of them. -/
theorem block (c : Dev nD) (t : Fin cfg0.N) (p : Fin 2) (k : Fin 2048) (j : Fin 128) :
    iblk m c 9 t (ix3 p k j) = V m c main_v16 (ix3 p k j) := by
  unfold iblk
  generalize V m c main_v16 = v
  blk_ext [idx t]

/-- The one block of the biases is all of them. -/
theorem bias_block (c : Dev nD) (t : Fin cfg0.N) (j : Fin 128) :
    iblk m c 10 t (ix2 j 0) = V m c main_v26 (ix2 j 0) := by
  unfold iblk
  generalize V m c main_v26 = v
  blk_ext [idx t]

/-- The biases that the body adds. -/
theorem biases (c : Dev nD) (j : Fin 128) :
    V m c main_v26 (ix2 j 0) = Cert.Router.bias (m ((c : Thread nD τ).loc main_arg9)) (m ((c : Thread nD τ).loc main_arg11)) j := by
  generalize hR : Cert.Router.bias _ _ j = R
  entry_read
  unfold Cert.Router.bias at hR
  refine (Cert.Router.scatter_rows _ (by decide) rfl rfl rfl _ _ _ 8 (by rfl) (by rfl) j).trans ?_
  by_cases h : 8 ≤ j.val ∧ j.val < 8 + 32
  · have h' : 8 ≤ j.val ∧ j.val < 40 := h
    rw [dif_pos h'] at hR
    rw [dif_pos h]
    pointwise
    exact hR
  · have h' : ¬ (8 ≤ j.val ∧ j.val < 40) := h
    rw [dif_neg h'] at hR
    rw [dif_neg h]
    refine (Cert.Router.scatter_rows _ (by decide) rfl rfl rfl _ _ _ 0 (by rfl) (by rfl) j).trans ?_
    by_cases g : 0 ≤ j.val ∧ j.val < 0 + 4
    · have g' : j.val < 4 := by omega
      rw [dif_pos g'] at hR
      rw [dif_pos g]
      pointwise
      exact hR
    · have g' : ¬ j.val < 4 := by omega
      rw [dif_neg g'] at hR
      rw [dif_neg g]
      pointwise
      exact hR

end Cert.Kernel7Ideal.Router
-- ==== Proof.RouterFinal.lean ====
/- The router's logits that the gated merge also returns: the array after the run. -/
module

public import proofs.«01_k».proof.Proof.RouterHost

@[expose] public section

set_option maxRecDepth 16384

noncomputable section

open Idealize.ShloMosaic Idealize.ShloMosaic.TcCoe Idealize.SL.Sem

namespace Cert.Kernel7Ideal.Router
open Cert.Kernel7Ideal Cert.Kernel7Ideal.Gen

variable (m : (ℓ : Loc nD τ sig) → Buf (Elt Ideal) ℓ)

/-- The router's weights are real where the groups' and the experts' are. -/
theorem weight_real (wg : FVec Ideal ⟨3, ![1, 2048, 4]⟩ .f32) (we : FVec Ideal ⟨4, ![1, 2048, 4, 8]⟩ .f32)
    (hg : ∀ k g, ∃ z : ℝ, wg (ix3 0 k g) = (z : EReal)) (he : ∀ k g e, ∃ z : ℝ, we (ix4 0 k g e) = (z : EReal))
    (k : Fin 2048) (j : Fin 128) : ∃ z : ℝ, Cert.Router.weight wg we k j = (z : EReal) := by
  unfold Cert.Router.weight
  by_cases h : 8 ≤ j.val ∧ j.val < 40
  · rw [dif_pos h]
    exact he k _ _
  · rw [dif_neg h]
    by_cases g : j.val < 4
    · rw [dif_pos g]
      exact hg k _
    · rw [dif_neg g]
      exact ⟨0, rfl⟩

/-- The upper weights as the body loads them. -/
theorem upper (w : Vec Ideal S2x2048x128 .bf16) (k : Fin 2048) (j : Fin 128) :
    View.ld w r0_5 (ix3 0 k j) = w (ix3 0 k j) := by
  refine congrArg w ?_
  funext a
  refine Fin.ext ?_
  match a with
  | ⟨0, _⟩ => rfl
  | ⟨1, _⟩ => show 0 + 1 * k.val = k.val; omega
  | ⟨2, _⟩ => show 0 + 1 * j.val = j.val; omega

/-- The lower weights as the body loads them. -/
theorem lower (w : Vec Ideal S2x2048x128 .bf16) (k : Fin 2048) (j : Fin 128) :
    View.ld w r0_6 (ix3 0 k j) = w (ix3 1 k j) := by
  refine congrArg w ?_
  funext a
  refine Fin.ext ?_
  match a with
  | ⟨0, _⟩ => rfl
  | ⟨1, _⟩ => show 0 + 1 * k.val = k.val; omega
  | ⟨2, _⟩ => show 0 + 1 * j.val = j.val; omega

/-- What the body adds to the products. -/
theorem payload_bias (x : FVec Ideal S128x256 .f32) (b : Vec Ideal S128x1 .f32) (j : Fin 128) (a : Fin 256) :
    k0_pay1 (F := Ideal) x (k0_pay5 b) (ix2 j a) = x (ix2 j a) + b (ix2 j 0) := by
  generalize hR : x (ix2 j a) + b (ix2 j 0) = R
  pointwise [k0_pay1, k0_pay5]
  exact hR

/-- The logits that a point stores, at row `j` and column `a` of its block. -/
theorem point_logits (c : Dev nD) (t : Fin cfg0.N) (hs : ∀ k, ∃ z : ℝ, m ((c : Thread nD τ).loc main_arg7) (ix2 0 k) = (z : EReal))
    (hw : ∀ k j, ∃ z : ℝ, W m c k j = (z : EReal)) (j : Fin 128) (a : Fin 256) (r : Fin 8192) (hr : r.val = 256 * t.val + a.val) :
    k0_pay1 (k0_pay4 (k0_pay6 (iblk m c 0 t) (iblk m c 1 t) (iblk m c 2 t) (iblk m c 3 t) (iblk m c 4 t) (iblk m c 5 t) (iblk m c 6 t)
      (iblk m c 7 t) (iblk m c 8 t) (iblk m c 9 t) (iblk m c 10 t)) (iblk m c 8 t) (View.ld (iblk m c 9 t) r0_5)
      (View.ld (iblk m c 9 t) r0_5) (View.ld (iblk m c 9 t) r0_6)) (k0_pay5 (iblk m c 10 t)) (ix2 j a)
    = (∑ k, H2 m c r k * W m c k j)
      + Cert.Router.bias (m ((c : Thread nD τ).loc main_arg9)) (m ((c : Thread nD τ).loc main_arg11)) j := by
  have hrow := funext fun b => point m c t a b r hr
  have hh : ∀ k, k0_pay3 (F := Ideal) (k0_pay6 (iblk m c 0 t) (iblk m c 1 t) (iblk m c 2 t) (iblk m c 3 t) (iblk m c 4 t) (iblk m c 5 t)
      (iblk m c 6 t) (iblk m c 7 t) (iblk m c 8 t) (iblk m c 9 t) (iblk m c 10 t)) (iblk m c 8 t) (ix2 a k) = H2 m c r k := fun k =>
    (payload_h2 _ _ a k).trans (congrArg₂ (fun x s => Cert.Merge.normed x s k) hrow (scale m c t k))
  have hu : ∀ k, View.ld (iblk m c 9 t) r0_5 (ix3 0 k j) = W m c k j := fun k =>
    (upper _ k j).trans ((block m c t 0 k j).trans ((congrFun (entry m c) _).trans ((planes_0 _ k j).trans (laid_entry _ _ k j))))
  have hl : ∀ k, View.ld (iblk m c 9 t) r0_6 (ix3 0 k j) = W m c k j - W m c k j := fun k =>
    (lower _ k j).trans ((block m c t 1 k j).trans ((congrFun (entry m c) _).trans ((planes_1 _ k j).trans
      (congrArg₂ (· - ·) (laid_entry _ _ k j) (laid_entry _ _ k j)))))
  have hreal : ∀ k, ∃ z : ℝ, H2 m c r k = (z : EReal) := fun k => by
    obtain ⟨s, e⟩ := hs k
    unfold H2
    rw [e]
    exact Cert.Router.normed_real _ s k
  refine (payload_bias _ _ j a).trans (congrArg₂ (· + ·) ?_ ((bias_block m c t j).trans (biases m c j)))
  refine (payload_products _ _ _ _ j a).trans ?_
  refine Eq.trans ?_ (Cert.Router.split_sum (fun k => H2 m c r k) (fun k => W m c k j) hreal (fun k => hw k j))
  refine congrArg₂ (· + ·) (Finset.sum_congr rfl fun k _ => ?_)
    (congrArg₂ (· + ·) (Finset.sum_congr rfl fun k _ => ?_) (Finset.sum_congr rfl fun k _ => ?_))
  · exact congrArg₂ (· * ·) (hh k) (hu k)
  · exact congrArg₂ (· * ·) (congrArg₂ (· - ·) (hh k) (hh k)) (hu k)
  · exact congrArg₂ (· * ·) (hh k) (hl k)

/-- The third result array after the run, where the scales and the weights are real. -/
theorem final (c : Dev nD) (hs : ∀ k, ∃ z : ℝ, m ((c : Thread nD τ).loc main_arg7) (ix2 0 k) = (z : EReal))
    (hw : ∀ k j, ∃ z : ℝ, W m c k j = (z : EReal)) :
    (dats m 0 c).arrAt 13 cfg0.N = fun i : S128x8192.Idx => (∑ k, H2 m c (i 1) k * W m c k (i 0))
      + Cert.Router.bias (m ((c : Thread nD τ).loc main_arg9)) (m ((c : Thread nD τ).loc main_arg11)) (i 0) := by
  refine (dats m 0 c).arrAt_eq_of_covers 13 _ (by decide +kernel) fun t _ y => ?_
  have e0 : ((win0_13.blk t).view.emb y 0 : Fin 128) = y 0 :=
    Fin.ext ((win0_13.rect_emb_val t y 0).trans (by rw [(idx t).2.2.2.2.2.2.2.2.2.2.2.1]; exact (congrArg (· + _) (Nat.zero_mul _)).trans (Nat.zero_add _)))
  have e1 : (((win0_13.blk t).view.emb y 1 : Fin _) : ℕ) = 256 * t.val + (y 1).val :=
    (win0_13.rect_emb_val t y 1).trans (by rw [(idx t).2.2.2.2.2.2.2.2.2.2.2.1]; exact congrArg (· + _) (Nat.mul_comm _ _))
  blk_simp
  rw [after0_13]
  frame_out
  rw [eq_ix2 (n0 := 128) (n1 := 256) y]
  refine (point_logits m c t hs hw (y 0) (y 1) _ e1).trans ?_
  exact congrArg (fun j => (∑ k, H2 m c ((win0_13.blk t).view.emb y 1) k * W m c k j)
    + Cert.Router.bias (m ((c : Thread nD τ).loc main_arg9)) (m ((c : Thread nD τ).loc main_arg11)) j) e0.symm

end Cert.Kernel7Ideal.Router
-- ==== Proof.RouterPre.lean ====
/- Finite scales and router weights are real numbers. -/
module

public import proofs.«01_k».proof.Pre_finite_router
public import Idealize.ShloMosaic.Lib.Pipeline.ValueKit
public import proofs.«01_k».proof.Proof.Route

@[expose] public section

noncomputable section

open Idealize.ShloMosaic

namespace Cert.Pre_finite_router

theorem facts : Cert.Pre_finite_router.Facts where
  bcast_S_S1x2048 := by decide
  bcast_S1x2048_S1x2048x1x1_0_1 := by decide
  bcast_S_S1x2048x4 := by decide
  bcast_S1x2048x4_S1x2048x4x1_0_1_2 := by decide
  bcast_S1x2048x1x1_S1x2048x4x1_0_1_2_3 := by decide
  bcast_S_S1x2048x4x8 := by decide
  bcast_S1x2048x4x1_S1x2048x4x8_0_1_2_3 := by decide

/-- Whether a value lies below plus infinity in size, as a bit. -/
def small (a : EReal) : BitVec 1 :=
  BitVec.ofBool (decide (FloatOps.absf (F := Ideal) (φ := .f32) a < Ideal.ofBits .f32 0x7F800000#32))

/-- A value of which that bit is set is real. -/
theorem real_of_small (a : EReal) (h : small a = 1#1) : ∃ z : ℝ, a = (z : EReal) := by
  unfold small at h
  rw [Cert.Route.bits_top] at h
  have hlt : FloatOps.absf (F := Ideal) (φ := .f32) a < (⊤ : EReal) := by
    by_contra hn
    rw [decide_eq_false hn] at h
    exact absurd h (by decide)
  induction a using EReal.rec with
  | bot => exact absurd hlt (by show ¬ max (⊥ : EReal) (-⊥) < ⊤; simp)
  | top => exact absurd hlt (by show ¬ max (⊤ : EReal) (-⊤) < ⊤; simp)
  | coe z => exact ⟨z, rfl⟩

/-- Two bits whose conjunction is set are both set. -/
theorem and_bits : ∀ a b : BitVec 1, IntOp.andi a b = 1#1 → a = 1#1 ∧ b = 1#1 := by
  decide

variable [Cert.Pre_finite_router.Facts]

theorem reals (a0 a1 : FVec Ideal S8192x1024 .bf16) (a2 : FVec Ideal S8192x4096 .f32) (a3 : FVec Ideal S1x8192x2048 .f32)
    (a4 a5 : FVec Ideal S1x1024x2048 .f32) (a6 : FVec Ideal S1x2048x2048 .f32) (nf : FVec Ideal S1x2048 .f32)
    (wg : FVec Ideal S1x2048x4 .f32) (a9 : FVec Ideal S1x4 .f32) (we : FVec Ideal S1x2048x4x8 .f32) (a11 : FVec Ideal S1x4x8 .f32)
    (h : fn (F := Ideal) a0 a1 a2 a3 a4 a5 a6 nf wg a9 we a11 = fun _ => 1#1) (k : Fin 2048) (g : Fin 4) (e : Fin 8) :
    (∃ z : ℝ, nf (ix2 0 k) = (z : EReal)) ∧ (∃ z : ℝ, wg (ix3 0 k g) = (z : EReal)) ∧ (∃ z : ℝ, we (ix4 0 k g e) = (z : EReal)) := by
  have h := congrFun h (ix4 0 k g e)
  have q : fn (F := Ideal) a0 a1 a2 a3 a4 a5 a6 nf wg a9 we a11 (ix4 0 k g e)
      = IntOp.andi (IntOp.andi (small (nf (ix2 0 k))) (small (wg (ix3 0 k g)))) (small (we (ix4 0 k g e))) := by
    generalize hR : IntOp.andi (IntOp.andi _ _) _ = R
    unfold fn
    pointwise
    exact hR
  rw [q] at h
  obtain ⟨h, h3⟩ := and_bits _ _ h
  obtain ⟨h1, h2⟩ := and_bits _ _ h
  exact ⟨real_of_small _ h1, real_of_small _ h2, real_of_small _ h3⟩

end Cert.Pre_finite_router
-- ==== Proof.RouterRef.lean ====
/- The router's logits of the reference, entry by entry. -/
module

public import proofs.«01_k».proof.Proof.Gen.Reference7Ideal.Run
public import proofs.«01_k».proof.Proof.Router

@[expose] public section

set_option maxRecDepth 16384

noncomputable section

open Idealize.ShloMosaic Idealize.ShloMosaic.TcCoe Idealize.SL.Sem

namespace Cert.Reference7Ideal
open Cert.Reference7Ideal.Gen

/-- The reference's residual rows. -/
def refX2 (oa ob : FVec Ideal S8192x1024 .bf16) (z : FVec Ideal S8192x4096 .f32) (x : FVec Ideal S1x8192x2048 .f32)
    (woa wob : FVec Ideal S1x1024x2048 .f32) (wo : FVec Ideal S1x2048x2048 .f32) : FVec Ideal S8192x2048 .f32 :=
    addf (shapeCast _ x shapeCasts_S1x8192x2048_S8192x2048) (Host.dotGeneral
    dot_S8192x2048_S2048x2048_S8192x2048_1_0_0_1_n_n none (addf (mulf (Host.divf (broadcastInDim S8192x2048 ![]
    bcast_S_S8192x2048 (constant S_ .f32 0x3F800000#32)) (addf (broadcastInDim S8192x2048 ![] bcast_S_S8192x2048
    (constant S_ .f32 0x3F800000#32)) (Host.exp (Host.negf (extractStridedSlice S8192x2048 ![0, 0] z
    slices_S8192x4096_S8192x2048_0_0))))) (Host.dotGeneral dot_S8192x1024_S1024x2048_S8192x2048_1_0_0_1_n_n none (extf
    .f32 oa bitsLt_bf16_f32) (shapeCast _ woa shapeCasts_S1x1024x2048_S1024x2048))) (mulf (Host.divf (broadcastInDim
    S8192x2048 ![] bcast_S_S8192x2048 (constant S_ .f32 0x3F800000#32)) (addf (broadcastInDim S8192x2048 ![]
    bcast_S_S8192x2048 (constant S_ .f32 0x3F800000#32)) (Host.exp (Host.negf (extractStridedSlice S8192x2048 ![0,
    2048] z slices_S8192x4096_S8192x2048_0_2048))))) (Host.dotGeneral dot_S8192x1024_S1024x2048_S8192x2048_1_0_0_1_n_n
    none (extf .f32 ob bitsLt_bf16_f32) (shapeCast _ wob shapeCasts_S1x1024x2048_S1024x2048)))) (shapeCast _ wo
    shapeCasts_S1x2048x2048_S2048x2048))

/-- The reference's normalized rows, of the residual rows. -/
def refH2 (x2 : FVec Ideal S8192x2048 .f32) (nf : FVec Ideal S1x2048 .f32) : FVec Ideal S8192x2048 .f32 :=
    mulf (mulf x2 (broadcastInDim S8192x2048 ![0, 1] bcast_S8192x1_S8192x2048_0_1 (Host.rsqrt (addf (Host.divf
    (broadcastInDim S8192x1 ![0] bcast_S8192_S8192x1_0 (Host.reduceAdd (mulf x2 x2) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim
    S8192x2048 ![0, 1] bcast_S1x2048_S8192x2048_0_1 (broadcastInDim S1x2048 ![1] bcast_S2048_S1x2048_1 (shapeCast _ nf
    shapeCasts_S1x2048_S2048)))

/-- The residual rows, entry by entry. -/
theorem refX2_apply (oa ob : FVec Ideal S8192x1024 .bf16) (z : FVec Ideal S8192x4096 .f32) (x : FVec Ideal S1x8192x2048 .f32)
    (woa wob : FVec Ideal S1x1024x2048 .f32) (wo : FVec Ideal S1x2048x2048 .f32) (i : S8192x2048.Idx) :
    refX2 oa ob z x woa wob wo i = Cert.Merge.x2 oa ob z x woa wob wo (i 0) (i 1) := by
  generalize hR : Cert.Merge.x2 oa ob z x woa wob wo (i 0) (i 1) = R
  pointwise [refX2]
  simp only [← hR, Cert.Merge.x2, zero_sub]

/-- The normalized rows, entry by entry. -/
theorem refH2_apply (x2 : FVec Ideal S8192x2048 .f32) (nf : FVec Ideal S1x2048 .f32) (i : S8192x2048.Idx) :
    refH2 x2 nf i = Cert.Merge.normed (fun k => x2 (ix2 (i 0) k)) (nf (ix2 0 (i 1))) (i 1) := by
  generalize hR : Cert.Merge.normed (fun k => x2 (ix2 (i 0) k)) (nf (ix2 0 (i 1))) (i 1) = R
  pointwise [refH2]
  rw [← hR]
  unfold Cert.Merge.normed
  beta_reduce
  rw [← eq_ix2 (n0 := 8192) (n1 := 2048) i]

/-- The groups' logits, padded to eight rows. -/
def groups (h : FVec Ideal S8192x2048 .f32) (wg : FVec Ideal S1x2048x4 .f32) (bg : FVec Ideal S1x4 .f32) : FVec Ideal S8x8192 .f32 :=
  pad S8x8192 ![0, 0] ![4, 0] ![0, 0] (transpose S4x8192 [1, 0] (addf
    (Host.dotGeneral dot_S8192x2048_S2048x4_S8192x4_1_0_0_1_n_n none h (shapeCast _ wg shapeCasts_S1x2048x4_S2048x4))
    (broadcastInDim S8192x4 ![0, 1] bcast_S1x4_S8192x4_0_1 (broadcastInDim S1x4 ![1] bcast_S4_S1x4_1 (shapeCast _ bg shapeCasts_S1x4_S4))))
    transposes_S8192x4_S4x8192_1_0) (sitofp .f32 (constantI S_ 32 0#32)) pads_S4x8192_S8x8192_040_000 h_S_

/-- The experts' logits, padded to 120 rows. -/
def experts (h : FVec Ideal S8192x2048 .f32) (we : FVec Ideal S1x2048x4x8 .f32) (be : FVec Ideal S1x4x8 .f32) : FVec Ideal S120x8192 .f32 :=
  pad S120x8192 ![0, 0] ![88, 0] ![0, 0] (transpose S32x8192 [1, 0] (shapeCast S8192x32 (addf
    (Host.dotGeneral dot_S8192x2048_S2048x4x8_S8192x4x8_1_0_0_12_n_n none h (shapeCast _ we shapeCasts_S1x2048x4x8_S2048x4x8))
    (broadcastInDim S8192x4x8 ![0, 1, 2] bcast_S1x4x8_S8192x4x8_0_1_2 (broadcastInDim S1x4x8 ![1, 2] bcast_S4x8_S1x4x8_1_2
      (shapeCast _ be shapeCasts_S1x4x8_S4x8)))) shapeCasts_S8192x4x8_S8192x32) transposes_S8192x32_S32x8192_1_0)
    (sitofp .f32 (constantI S_ 32 0#32)) pads_S32x8192_S120x8192_0880_000 h_S_

/-- The groups' logits above the experts'. -/
def logits (h : FVec Ideal S8192x2048 .f32) (wg : FVec Ideal S1x2048x4 .f32) (bg : FVec Ideal S1x4 .f32)
    (we : FVec Ideal S1x2048x4x8 .f32) (be : FVec Ideal S1x4x8 .f32) : FVec Ideal S128x8192 .f32 :=
  concatenate S128x8192 0 [⟨S8x8192, groups h wg bg⟩, ⟨S120x8192, experts h we be⟩] concatenates_S8x8192_S120x8192_S128x8192_d0

/-- What is padded with is zero. -/
theorem pad_value : FloatOps.sitofp (F := Ideal) FTy.f32 (0#32) = (0 : EReal) := by
  show (((0#32 : BitVec 32).toInt : ℝ) : EReal) = 0
  simp

section entries
variable (h : FVec Ideal S8192x2048 .f32) (wg : FVec Ideal S1x2048x4 .f32) (bg : FVec Ideal S1x4 .f32)
  (we : FVec Ideal S1x2048x4x8 .f32) (be : FVec Ideal S1x4x8 .f32)

/-- A group's logit. -/
theorem groups_hit (j : Fin 8) (r : Fin 8192) (hj : j.val < 4) :
    groups h wg bg (ix2 j r) = (∑ k : Fin 2048, h (ix2 r k) * wg (ix3 0 k ⟨j.val, hj⟩)) + bg (ix2 0 ⟨j.val, hj⟩) := by
  generalize hR : (∑ k : Fin 2048, h (ix2 r k) * wg (ix3 0 k ⟨j.val, hj⟩)) + bg (ix2 0 ⟨j.val, hj⟩) = R
  unfold groups
  pointwise
  rw [dif_pos hj]
  exact hR

/-- The rows below the groups' are zero. -/
theorem groups_miss (j : Fin 8) (r : Fin 8192) (hj : ¬ j.val < 4) : groups h wg bg (ix2 j r) = 0 := by
  unfold groups
  pointwise
  rw [dif_neg hj]
  exact pad_value

/-- An expert's logit. -/
theorem experts_hit (j : Fin 120) (r : Fin 8192) (hj : j.val < 32) :
    experts h we be (ix2 j r) = (∑ k : Fin 2048, h (ix2 r k) * we (ix4 0 k ⟨j.val / 8, by omega⟩ ⟨j.val % 8, by omega⟩))
      + be (ix3 0 ⟨j.val / 8, by omega⟩ ⟨j.val % 8, by omega⟩) := by
  generalize hR : (∑ k : Fin 2048, h (ix2 r k) * we (ix4 0 k _ _)) + be (ix3 0 _ _) = R
  unfold experts
  pointwise
  rw [dif_pos hj]
  exact hR

/-- The rows below the experts' are zero. -/
theorem experts_miss (j : Fin 120) (r : Fin 8192) (hj : ¬ j.val < 32) : experts h we be (ix2 j r) = 0 := by
  unfold experts
  pointwise
  rw [dif_neg hj]
  exact pad_value

/-- The first eight rows. -/
theorem logits_upper (j : Fin 128) (r : Fin 8192) (hj : j.val < 8) : logits h wg bg we be (ix2 j r) = groups h wg bg (ix2 ⟨j.val, hj⟩ r) := by
  unfold logits
  generalize groups h wg bg = a
  generalize experts h we be = b
  pointwise
  rw [dif_pos hj]

/-- The others. -/
theorem logits_lower (j : Fin 128) (r : Fin 8192) (hj : ¬ j.val < 8) :
    logits h wg bg we be (ix2 j r) = experts h we be (ix2 ⟨j.val - 8, by omega⟩ r) := by
  unfold logits
  generalize groups h wg bg = a
  generalize experts h we be = b
  pointwise
  rw [dif_neg hj]

/-- The logits, entry by entry: the rows times the router's weights plus its biases. -/
theorem logits_entry (j : Fin 128) (r : Fin 8192) :
    logits h wg bg we be (ix2 j r)
    = (∑ k : Fin 2048, h (ix2 r k) * Cert.Router.weight wg we k j) + Cert.Router.bias bg be j := by
  have none : (∑ k : Fin 2048, h (ix2 r k) * (0 : EReal)) + 0 = 0 := by
    rw [add_zero]
    exact Finset.sum_eq_zero fun k _ => mul_zero _
  unfold Cert.Router.weight Cert.Router.bias
  by_cases h8 : j.val < 8
  · have hn : ¬ (8 ≤ j.val ∧ j.val < 40) := by omega
    rw [logits_upper h wg bg we be j r h8]
    simp only [dif_neg hn]
    by_cases h4 : j.val < 4
    · simp only [dif_pos h4]
      exact groups_hit h wg bg ⟨j.val, h8⟩ r h4
    · simp only [dif_neg h4]
      exact (groups_miss h wg bg ⟨j.val, h8⟩ r h4).trans none.symm
  · rw [logits_lower h wg bg we be j r h8]
    by_cases h40 : j.val < 40
    · have hy : 8 ≤ j.val ∧ j.val < 40 := by omega
      simp only [dif_pos hy]
      exact experts_hit h we be ⟨j.val - 8, by omega⟩ r (by show j.val - 8 < 32; omega)
    · have hn : ¬ (8 ≤ j.val ∧ j.val < 40) := by omega
      have h4 : ¬ j.val < 4 := by omega
      simp only [dif_neg hn, dif_neg h4]
      exact (experts_miss h we be ⟨j.val - 8, by omega⟩ r (by show ¬ j.val - 8 < 32; omega)).trans none.symm

end entries

/-- The result is those logits of the normalized residual rows. -/
theorem res_eq (m : (ℓ : Loc nD τ sig) → Buf (Elt Ideal) ℓ) (c : Dev nD) :
    Value.res_main_v58 (F := Ideal) m c
    = logits (refH2 (refX2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))) (m ((c.tc : Thread nD τ).loc main_arg7)))
      (m ((c.tc : Thread nD τ).loc main_arg8)) (m ((c.tc : Thread nD τ).loc main_arg9)) (m ((c.tc : Thread nD τ).loc main_arg10))
      (m ((c.tc : Thread nD τ).loc main_arg11)) := by
  unfold Value.res_main_v58 logits groups experts refH2 refX2
  rfl

/-- The result over the launched arrays, entry by entry. -/
theorem res_entry (m : (ℓ : Loc nD τ sig) → Buf (Elt Ideal) ℓ) (c : Dev nD) (j : Fin 128) (r : Fin 8192) :
    Value.res_main_v58 (F := Ideal) m c (ix2 j r)
    = (∑ k : Fin 2048, Cert.Merge.normed (Cert.Merge.x2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) r) (m ((c.tc : Thread nD τ).loc main_arg7) (ix2 0 k)) k
        * Cert.Router.weight (m ((c.tc : Thread nD τ).loc main_arg8)) (m ((c.tc : Thread nD τ).loc main_arg10)) k j)
      + Cert.Router.bias (m ((c.tc : Thread nD τ).loc main_arg9)) (m ((c.tc : Thread nD τ).loc main_arg11)) j := by
  rw [res_eq, logits_entry]
  refine congrArg (· + _) (Finset.sum_congr rfl fun k _ => congrArg (· * _) ?_)
  refine (refH2_apply _ _ (ix2 r k)).trans ?_
  exact congrArg (fun x => Cert.Merge.normed x _ k) (funext fun q => refX2_apply _ _ _ _ _ _ _ (ix2 r q))

end Cert.Reference7Ideal
-- ==== Proof.Decay.lean ====
/- The decay gates of the layer's opening call: their formula, running sums within chunks of 64 rows, and sums picked by a mask. -/
module

public import proofs.«01_k».proof.Proof.Prologue

@[expose] public section

set_option maxRecDepth 16384

noncomputable section

open Idealize.ShloMosaic

namespace Cert.Decay

/-- A gate's value from its product. -/
def gate (z : EReal) : EReal := Ideal.div 1 (1 + Ideal.exp (-z))

/-- The softplus of a value. -/
def softplus (y : EReal) : EReal := max y 0 + Ideal.log (1 + Ideal.exp (-max y (-y)))

/-- A row's log decay from a head's two parameters and the row's product. -/
def rate (a d z : EReal) : EReal := -Ideal.exp a * softplus (z + d)

/-- The exponential is never negative. -/
theorem exp_nonneg (x : EReal) : 0 ≤ Ideal.exp x := by
  induction x using EReal.rec with
  | bot => exact le_refl _
  | top => exact le_top
  | coe r => exact EReal.coe_nonneg.2 (Real.exp_pos r).le

/-- The logarithm of a value that is at least one is not negative. -/
theorem log_nonneg (x : EReal) (h : 1 ≤ x) : 0 ≤ Ideal.log x := by
  induction x using EReal.rec with
  | bot => exact absurd (le_bot_iff.1 h) (EReal.coe_ne_bot 1)
  | top => exact le_top
  | coe r =>
    have hr : (1 : ℝ) ≤ r := by exact_mod_cast h
    show (0 : EReal) ≤ if r ≤ 0 then ⊥ else (Real.log r : EReal)
    rw [if_neg (by linarith)]
    exact EReal.coe_nonneg.2 (Real.log_nonneg hr)

/-- The softplus is not negative. -/
theorem softplus_nonneg (y : EReal) : 0 ≤ softplus y :=
  add_nonneg (le_max_right _ _) (log_nonneg _ (le_add_of_nonneg_right (exp_nonneg _)))

/-- A log decay is not `+∞`. -/
theorem rate_ne_top (a d z : EReal) : rate a d z ≠ ⊤ := by
  have h : rate a d z ≤ 0 := by
    unfold rate
    rw [EReal.neg_mul, EReal.neg_le, neg_zero]
    exact EReal.mul_nonneg (exp_nonneg a) (softplus_nonneg _)
  exact fun e => absurd (e ▸ h) (by simp)

/-- A value kept by a mask, its rounding error and the error's error, which are both nothing here. -/
theorem mask_parts (c : BitVec 1) (g : EReal) (hg : g ≠ ⊤) :
    Scalar.select c g 0 + Scalar.select c (g - g) 0 + Scalar.select c (g - g - (g - g)) 0 = Scalar.select c g 0 := by
  unfold Scalar.select
  split
  · induction g using EReal.rec with
    | bot => rfl
    | top => exact absurd rfl hg
    | coe r =>
      rw [← EReal.coe_sub, ← EReal.coe_sub, ← EReal.coe_add, ← EReal.coe_add]
      norm_num
  · simp only [add_zero]

/-- So three masked sums of the three parts are the masked sum. -/
theorem mask_sums {n : ℕ} (c : Fin n → BitVec 1) (g : Fin n → EReal) (hg : ∀ k, g k ≠ ⊤) :
    (∑ k, Scalar.select (c k) (g k) (0 : EReal)) + (∑ k, Scalar.select (c k) (g k - g k) (0 : EReal))
      + (∑ k, Scalar.select (c k) (g k - g k - (g k - g k)) (0 : EReal)) = ∑ k, Scalar.select (c k) (g k) 0 := by
  rw [← Finset.sum_add_distrib, ← Finset.sum_add_distrib]
  exact Finset.sum_congr rfl fun k _ => mask_parts (c k) (g k) (hg k)

/-- A sum over the 256 rows of a block that keeps one chunk of 64, as a sum over the chunk. -/
theorem sum_chunk (f : Fin 256 → EReal) (p : Fin 256 → Prop) [∀ k, Decidable (p k)] (i : Fin 256) :
    (∑ k : Fin 256, if i.val / 64 = k.val / 64 ∧ p k then f k else 0)
      = ∑ j : Fin 64, if p ⟨64 * (i.val / 64) + j.val, by omega⟩ then f ⟨64 * (i.val / 64) + j.val, by omega⟩ else 0 := by
  symm
  refine Finset.sum_of_injOn (fun j : Fin 64 => (⟨64 * (i.val / 64) + j.val, by omega⟩ : Fin 256)) ?_ ?_ ?_ ?_
  · intro a _ b _ h
    have := congrArg Fin.val h
    exact Fin.ext (by simpa using this)
  · exact fun _ _ => Finset.mem_coe.2 (Finset.mem_univ _)
  · intro k _ hk
    refine if_neg fun h => hk ⟨⟨k.val % 64, by omega⟩, Finset.mem_coe.2 (Finset.mem_univ _), Fin.ext ?_⟩
    show 64 * (i.val / 64) + k.val % 64 = k.val
    omega
  · intro j _
    have : i.val / 64 = (64 * (i.val / 64) + j.val) / 64 := by omega
    simp only [← this, true_and]

/-- A left fold that adds is the start plus the sum. -/
theorem foldl_add {ι : Type} (f : ι → EReal) (l : List ι) (v : EReal) : l.foldl (fun r n => r + f n) v = v + (l.map f).sum := by
  induction l generalizing v with
  | nil => simp
  | cons n l ih => rw [List.foldl_cons, ih, List.map_cons, List.sum_cons, add_assoc]

/-- The positions of a window of 64 along the last of three axes. -/
def windowEquiv : Fin 64 ≃ (⟨3, ![1, 1, 64]⟩ : Shape).Idx where
  toFun w := ix3 0 0 w
  invFun i := i 2
  left_inv _ := rfl
  right_inv i := (congrArg₂ (fun a b => ix3 (n0 := 1) (n1 := 1) (n2 := 64) a b (i 2)) (Subsingleton.elim _ _) (Subsingleton.elim _ _)).trans
    (eq_ix3 (n0 := 1) (n1 := 1) (n2 := 64) i).symm

/-- The window that ends at a position holds the entries up to it. -/
theorem sum_window (f : Fin 64 → EReal) (p : Fin 64) :
    (∑ w : Fin 64, if h : 63 ≤ p.val + w.val then f ⟨p.val + w.val - 63, by omega⟩ else 0) = ∑ j : Fin 64, if j.val ≤ p.val then f j else 0 := by
  refine Fintype.sum_equiv (Equiv.addRight (p + 1)) _ _ fun w => ?_
  have hv : (Equiv.addRight (p + 1) w : Fin 64).val = (w.val + (p.val + 1) % 64) % 64 := by
    show (w + (p + 1)).val = _
    rw [Fin.val_add, Fin.val_add]
    rfl
  by_cases h : 63 ≤ p.val + w.val
  · rw [dif_pos h, if_pos (by rw [hv]; omega)]
    refine congrArg f (Fin.ext ?_)
    rw [hv]
    show p.val + w.val - 63 = _
    omega
  · rw [dif_neg h, if_neg (by rw [hv]; omega)]

/-- The position in the padded operand that a window's position reads. -/
def place (a : Fin 112) (n : Fin 128) (p : Fin 64) (w : (⟨3, ![1, 1, 64]⟩ : Shape).Idx) (b : Fin 3) : ℕ :=
  (ix3 a n p b).val * (![1, 1, 1] : Fin 3 → ℕ) b + (w b).val

/-- The entry that a window's position reads, and the initial value in the padding. -/
def entry (x : FVec Ideal ⟨3, ![112, 128, 64]⟩ .f32) (v : EReal) (a : Fin 112) (n : Fin 128) (p : Fin 64)
    (w : (⟨3, ![1, 1, 64]⟩ : Shape).Idx) : EReal :=
  if hin : ∀ b, (![0, 0, 63] : Fin 3 → ℕ) b ≤ place a n p w b
      ∧ place a n p w b - (![0, 0, 63] : Fin 3 → ℕ) b < (⟨3, ![112, 128, 64]⟩ : Shape).size b
  then x (fun b => ⟨place a n p w b - (![0, 0, 63] : Fin 3 → ℕ) b, (hin b).2⟩) else v

/-- The entries of the window that ends at a position. -/
theorem entry_eq (x : FVec Ideal ⟨3, ![112, 128, 64]⟩ .f32) (a : Fin 112) (n : Fin 128) (p w : Fin 64) :
    entry x 0 a n p (windowEquiv w) = if h : 63 ≤ p.val + w.val then x (ix3 a n ⟨p.val + w.val - 63, by omega⟩) else 0 := by
  have q0 : place a n p (windowEquiv w) 0 = a.val := by show a.val * 1 + 0 = _; omega
  have q1 : place a n p (windowEquiv w) 1 = n.val := by show n.val * 1 + 0 = _; omega
  have q2 : place a n p (windowEquiv w) 2 = p.val + w.val := by show p.val * 1 + w.val = _; omega
  unfold entry
  by_cases hw : 63 ≤ p.val + w.val
  · rw [dif_pos hw, dif_pos (fun b => by
      match b with
      | ⟨0, _⟩ => exact ⟨Nat.zero_le _, by show place a n p (windowEquiv w) 0 - 0 < 112; omega⟩
      | ⟨1, _⟩ => exact ⟨Nat.zero_le _, by show place a n p (windowEquiv w) 1 - 0 < 128; omega⟩
      | ⟨2, _⟩ => exact ⟨by show 63 ≤ place a n p (windowEquiv w) 2; omega, by show place a n p (windowEquiv w) 2 - 63 < 64; omega⟩)]
    refine congrArg x (funext fun b => Fin.ext ?_)
    match b with
    | ⟨0, _⟩ => exact q0
    | ⟨1, _⟩ => exact q1
    | ⟨2, _⟩ => exact congrArg (· - 63) q2
  · rw [dif_neg hw, dif_neg fun hin => hw (q2 ▸ (hin 2).1)]

/-- The reference's running sum along chunks of 64, entry by entry. -/
theorem running (x : FVec Ideal ⟨3, ![112, 128, 64]⟩ .f32) (init : FVec Ideal ⟨0, ![]⟩ .f32)
    (h : (⟨3, ![112, 128, 64]⟩ : Shape).ReduceWindows ![1, 1, 64] ![1, 1, 1] ![0, 0, 63] ![0, 0, 0] ⟨3, ![112, 128, 64]⟩)
    (hu : 0 < (⟨0, ![]⟩ : Shape).numel) (h0 : init (Shape.Idx.first hu) = (0 : EReal)) (a : Fin 112) (n : Fin 128) (p : Fin 64) :
    Host.reduceWindowAdd (F := Ideal) ![1, 1, 64] ![1, 1, 1] ![0, 0, 63] ![0, 0, 0] x init h hu (ix3 a n p)
      = ∑ j : Fin 64, if j.val ≤ p.val then (x (ix3 a n j) : EReal) else 0 := by
  refine Eq.trans ?_ (sum_window (fun j => x (ix3 a n j)) p)
  have e : Host.reduceWindowAdd (F := Ideal) ![1, 1, 64] ![1, 1, 1] ![0, 0, 63] ![0, 0, 0] x init h hu (ix3 a n p)
      = (List.finRange (⟨3, ![1, 1, 64]⟩ : Shape).numel).foldl
          (fun r k => r + entry x (init (Shape.Idx.first hu)) a n p ((⟨3, ![1, 1, 64]⟩ : Shape).rowMajor.symm k)) (init (Shape.Idx.first hu)) := by
    unfold Host.reduceWindowAdd
    rw [Ideal.hostReduceWindowAdd_def]
    unfold Ideal.hostReduceWindowAdd Host.reduceWindow
    dsimp only
    refine congrArg (fun F => List.foldl F (init (Shape.Idx.first hu)) (List.finRange (⟨3, ![1, 1, 64]⟩ : Shape).numel))
      (funext fun r => funext fun k => congrArg (r + ·) ?_)
    unfold entry
    split
    · next h1 =>
      split
      · rfl
      · next h2 => exact absurd h1 h2
    · next h1 =>
      split
      · next h2 => exact absurd h2 h1
      · rfl
  rw [e, h0]
  refine (foldl_add (fun k => entry x 0 a n p ((⟨3, ![1, 1, 64]⟩ : Shape).rowMajor.symm k)) _ _).trans ?_
  rw [← Fin.sum_univ_def, zero_add]
  refine (Equiv.sum_comp (⟨3, ![1, 1, 64]⟩ : Shape).rowMajor.symm (entry x 0 a n p)).trans ?_
  exact (Equiv.sum_comp windowEquiv (entry x 0 a n p)).symm.trans (Finset.sum_congr rfl fun w _ => entry_eq x a n p w)

/-- A parameter of a lane: the head's, and zero past the eighth head. -/
def par (v : FVec Ideal ⟨2, ![1, 8]⟩ .f32) (l : ℕ) : EReal := if h : l < 8 then v (ix2 0 ⟨l, h⟩) else 0

section results
variable (x : FVec Ideal ⟨3, ![1, 8192, 2048]⟩ .f32) (s : FVec Ideal ⟨2, ![1, 2048]⟩ .f32) (W : FVec Ideal ⟨3, ![1, 2048, 11296]⟩ .f32)
  (al dt : FVec Ideal ⟨2, ![1, 8]⟩ .f32)

/-- A row's log decay in a lane. -/
def rates (r : Fin 8192) (l : Fin 112) : EReal := rate (par al l.val) (par dt l.val) (Cert.Prologue.zrow x s W r ⟨4104 + l.val, by omega⟩)

/-- The log decays of a row's chunk summed up to the row. -/
def cum (r : Fin 8192) (l : Fin 112) : EReal :=
  ∑ j : Fin 64, if j.val ≤ r.val % 64 then rates x s W al dt ⟨64 * (r.val / 64) + j.val, by omega⟩ l else 0

/-- The log decays of a row's chunk summed over the chunk. -/
def last (r : Fin 8192) (l : Fin 112) : EReal := ∑ j : Fin 64, rates x s W al dt ⟨64 * (r.val / 64) + j.val, by omega⟩ l

/-- A row of the gates: eight gate values, eight lanes of the sums up to the row, and the sums over the row's chunk. -/
def row (r : Fin 8192) (c : Fin 128) : EReal :=
  if h : c.val < 8 then gate (Cert.Prologue.zrow x s W r ⟨4096 + c.val, by omega⟩)
  else if h' : c.val < 16 then cum x s W al dt r ⟨c.val - 8, by omega⟩ else last x s W al dt r ⟨c.val - 16, by omega⟩

end results

end Cert.Decay
-- ==== Proof.DecayBody.lean ====
/- What the body of the layer's opening call computes of the decay gates from its blocks. -/
module

public import proofs.«01_k».proof.Proof.Gen.Kernel8Ideal.Value
public import proofs.«01_k».proof.Proof.Decay
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.Kernel8Ideal.Prologue
open Cert.Kernel8Ideal Cert.Kernel8Ideal.Gen

/-- The normalized rows that the body computes from a block of rows and the scales. -/
theorem payload_h (x : Vec Ideal S256x2048 .f32) (s : Vec Ideal S1x2048 .f32) (a : Fin 256) (b : Fin 2048) :
    k0_pay5 (F := Ideal) x s (ix2 a b) = Cert.Merge.normed (fun k => x (ix2 a k)) (s (ix2 0 b)) b := by
  unfold Cert.Merge.normed
  pointwise [k0_pay5]

/-- The product that the body stores, entry by entry. -/
theorem payload_z (x : Vec Ideal S256x2048 .f32) (s : Vec Ideal S1x2048 .f32) (w : Vec Ideal S128x2048 .bf16) (a : Fin 256)
    (b : Fin 128) :
    k0_pay7 (F := Ideal) x s w (ix2 a b) = ∑ k : Fin 2048, k0_pay5 (F := Ideal) x s (ix2 a k) * w (ix2 b k) := by
  unfold k0_pay7
  generalize k0_pay5 (F := Ideal) x s = h
  pointwise

/-- A gate entry of a block. -/
theorem pay_gate (x : Vec Ideal S256x2048 .f32) (s : Vec Ideal S1x2048 .f32) (w : Vec Ideal S128x2048 .bf16) (k : Fin 256) (l : Fin 128) :
    k0_pay11 (k0_pay10 (F := Ideal) x s w) (ix2 k l) = Cert.Decay.gate (k0_pay7 (F := Ideal) x s w (ix2 k l)) := by
  unfold Cert.Decay.gate k0_pay11 k0_pay10
  generalize k0_pay7 (F := Ideal) x s w = z
  pointwise
  rw [zero_sub]

/-- A log decay of a block. -/
theorem pay_rate (z : FVec Ideal S256x128 .f32) (a d : Vec Ideal S1x128 .f32) (k : Fin 256) (l : Fin 128) :
    k0_pay12 z (k0_pay8 a) (k0_pay9 d) (ix2 k l) = Cert.Decay.rate (a (ix2 0 l)) (d (ix2 0 l)) (z (ix2 k l)) := by
  unfold Cert.Decay.rate Cert.Decay.softplus
  pointwise [k0_pay12, k0_pay8, k0_pay9]
  rw [zero_sub, zero_sub]
  rfl

/-- The row of an entry of the masks. -/
abbrev rowIota : IVec S256x256 32 := iota .tc S256x256 32 [0] iota_S256x256_d0_w32

/-- The column of an entry of the masks. -/
abbrev colIota : IVec S256x256 32 := iota .tc S256x256 32 [1] iota_S256x256_d1_w32

/-- The chunk of a row of a block, as the body computes it. -/
def chunkWord (v : BitVec 32) : BitVec 32 :=
  Scalar.select
    (IntOp.andi
      (IntOp.cmpi CmpIPredicate.ne
        (IntOp.subi (BitVec.setWidth 32 (IntOp.cmpi CmpIPredicate.sgt v 0#32)) (BitVec.setWidth 32 (IntOp.cmpi CmpIPredicate.slt v 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector v 64#32) 0#32))
    (IntOp.subi (IntOp.divsi ArithUnit.vector v 64#32) 1#32) (IntOp.divsi ArithUnit.vector v 64#32)

/-- It is the row divided by 64. -/
theorem chunkWord_eq : ∀ i : Fin 256, chunkWord (BitVec.ofNat 32 i.val) = BitVec.ofNat 32 (i.val / 64) := by
  decide +kernel

/-- Two of the four chunks compare as their numbers. -/
theorem chunk_cmp : ∀ a b : Fin 4, IntOp.cmpi .eq (BitVec.ofNat 32 a.val) (BitVec.ofNat 32 b.val) = if a.val = b.val then 1#1 else 0#1 := by
  decide +kernel

/-- Two rows of a block compare as their numbers. -/
theorem row_cmp : ∀ i k : Fin 256, IntOp.cmpi .sle (BitVec.ofNat 32 k.val) (BitVec.ofNat 32 i.val) = if k.val ≤ i.val then 1#1 else 0#1 := by
  decide +kernel

/-- Lanes compare with 8 as their numbers. -/
theorem lane_cmp8 : ∀ l : Fin 128, IntOp.cmpi .slt (BitVec.ofNat 32 l.val) 8#32 = if l.val < 8 then 1#1 else 0#1 := by
  decide +kernel

/-- Lanes compare with 16 as their numbers. -/
theorem lane_cmp16 : ∀ l : Fin 128, IntOp.cmpi .slt (BitVec.ofNat 32 l.val) 16#32 = if l.val < 16 then 1#1 else 0#1 := by
  decide +kernel

/-- The mask of the rows of one chunk. -/
theorem pay_same (i k : Fin 256) : k0_pay16 colIota k0_pay13 k0_pay14 k0_pay15 (ix2 i k) = if i.val / 64 = k.val / 64 then 1#1 else 0#1 := by
  have h : k0_pay16 colIota k0_pay13 k0_pay14 k0_pay15 (ix2 i k)
      = IntOp.cmpi .eq (chunkWord (BitVec.ofNat 32 i.val)) (chunkWord (BitVec.ofNat 32 k.val)) := by
    generalize hR : IntOp.cmpi .eq (chunkWord (BitVec.ofNat 32 i.val)) (chunkWord (BitVec.ofNat 32 k.val)) = R
    pointwise [k0_pay16, k0_pay13, k0_pay14, k0_pay15, rowIota, colIota]
    exact hR
  rw [h, chunkWord_eq, chunkWord_eq]
  exact chunk_cmp ⟨i.val / 64, by omega⟩ ⟨k.val / 64, by omega⟩

/-- The sums up to each row of a block within the row's chunk. -/
theorem pay_cum (g : FVec Ideal S256x128 .f32) (i : Fin 256) (l : Fin 128) (hg : ∀ k : Fin 256, (g (ix2 k l) : EReal) ≠ ⊤) :
    k0_pay17 g rowIota colIota k0_pay13 k0_pay14 k0_pay15 (ix2 i l)
      = ∑ j : Fin 64, if j.val ≤ i.val % 64 then (g (ix2 ⟨64 * (i.val / 64) + j.val, by omega⟩ l) : EReal) else 0 := by
  generalize hR : Finset.sum (M := EReal) (Finset.univ : Finset (Fin 64)) _ = R
  unfold k0_pay17
  have hs := pay_same i
  generalize k0_pay16 colIota k0_pay13 k0_pay14 k0_pay15 = same at hs ⊢
  pointwise [rowIota, colIota]
  rw [← hR]
  refine (Cert.Decay.mask_sums (fun k => IntOp.andi (same (ix2 i k)) (IntOp.cmpi .sle (BitVec.ofNat 32 k.val) (BitVec.ofNat 32 i.val)))
    (fun k => g (ix2 k l)) hg).trans ?_
  refine Eq.trans (Finset.sum_congr rfl fun k _ => ?_) ((Cert.Decay.sum_chunk (fun k => g (ix2 k l)) (fun k => k.val ≤ i.val) i).trans ?_)
  · rw [hs, row_cmp]
    by_cases h1 : i.val / 64 = k.val / 64
    · by_cases h2 : k.val ≤ i.val
      · rw [if_pos h1, if_pos h2, if_pos ⟨h1, h2⟩]; rfl
      · rw [if_pos h1, if_neg h2, if_neg fun h => h2 h.2]; rfl
    · by_cases h2 : k.val ≤ i.val
      · rw [if_neg h1, if_pos h2, if_neg fun h => h1 h.1]; rfl
      · rw [if_neg h1, if_neg h2, if_neg fun h => h1 h.1]; rfl
  · refine Finset.sum_congr rfl fun j _ => ?_
    by_cases h : j.val ≤ i.val % 64
    · rw [if_pos h, if_pos (show 64 * (i.val / 64) + j.val ≤ i.val by omega)]
    · rw [if_neg h, if_neg (show ¬64 * (i.val / 64) + j.val ≤ i.val by omega)]

/-- The sums over a chunk. -/
theorem pay_last (same : IVec S256x256 1) (i : Fin 256) (hs : ∀ k, same (ix2 i k) = if i.val / 64 = k.val / 64 then 1#1 else 0#1)
    (g : Fin 256 → EReal) (hg : ∀ k : Fin 256, g k ≠ ⊤) :
    (∑ k, Scalar.select (same (ix2 i k)) (g k) (0 : EReal)) + (∑ k, Scalar.select (same (ix2 i k)) (g k - g k) (0 : EReal))
      + (∑ k, Scalar.select (same (ix2 i k)) (g k - g k - (g k - g k)) (0 : EReal))
    = ∑ j : Fin 64, g ⟨64 * (i.val / 64) + j.val, by omega⟩ := by
  refine (Cert.Decay.mask_sums (fun k => same (ix2 i k)) g hg).trans ?_
  refine Eq.trans (Finset.sum_congr rfl fun k _ => ?_) ((Cert.Decay.sum_chunk g (fun _ => True) i).trans ?_)
  · rw [hs]
    by_cases h1 : i.val / 64 = k.val / 64
    · rw [if_pos h1, if_pos ⟨h1, trivial⟩]; rfl
    · rw [if_neg h1, if_neg fun h => h1 h.1]; rfl
  · exact Finset.sum_congr rfl fun j _ => if_pos trivial

/-- A row of the gates that the body stores. -/
theorem pay_row (b g : FVec Ideal S256x128 .f32) (gc : FVec Ideal S256x128 .f32) (i : Fin 256) (l : Fin 128)
    (hg : ∀ (k : Fin 256) (l : Fin 128), (g (ix2 k l) : EReal) ≠ ⊤) :
    k0_pay1 b g (k0_pay16 colIota k0_pay13 k0_pay14 k0_pay15) gc (k0_pay18 (F := Ideal)) (k0_pay19 (F := Ideal)) (ix2 i l)
      = if l.val < 8 then b (ix2 i l) else if l.val < 16 then gc (ix2 i l)
        else ∑ j : Fin 64, (g (ix2 ⟨64 * (i.val / 64) + j.val, by omega⟩ ⟨(l.val + 128 - 8) % 128, by omega⟩) : EReal) := by
  generalize hR : Finset.sum (M := EReal) (Finset.univ : Finset (Fin 64)) _ = R
  have hs := pay_same i
  generalize k0_pay16 colIota k0_pay13 k0_pay14 k0_pay15 = same at hs ⊢
  pointwise [k0_pay1, k0_pay18, k0_pay19]
  rw [lane_cmp8, lane_cmp16, pay_last same i hs (fun k => g (ix2 k ⟨(l.val + 128 - 8) % 128, by omega⟩)) (fun k => hg k _), hR]
  by_cases h8 : l.val < 8
  · rw [if_pos h8, if_pos h8]; rfl
  · by_cases h16 : l.val < 16
    · rw [if_neg h8, if_neg h8, if_pos h16, if_pos h16]; rfl
    · rw [if_neg h8, if_neg h8, if_neg h16, if_neg h16]; rfl

/-- The transposed lanes that the body stores. -/
theorem pay_cols (gc : FVec Ideal S256x128 .f32) (j : Fin 8) (i : Fin 256) :
    k0_pay2 gc (ix2 j i) = gc (ix2 i ⟨8 + j.val, by omega⟩) := by
  pointwise [k0_pay2]

end Cert.Kernel8Ideal.Prologue
-- ==== Proof.DecayKernel.lean ====
/- The layer's opening call: the decay gates. -/
module

public import proofs.«01_k».proof.Proof.Gen.Kernel8Ideal.Value
public import proofs.«01_k».proof.Proof.DecayBody
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem

namespace Cert.Kernel8Ideal.Prologue
open Cert.Kernel8Ideal Cert.Kernel8Ideal.Gen

/-- An entry of the rows without their unit axis. -/
theorem rows_entry (x : FVec Ideal S1x8192x2048 .f32) (p : Fin 8192) (q : Fin 2048) :
    shapeCast S8192x2048 x shapeCasts_S1x8192x2048_S8192x2048 (ix2 p q) = x (ix3 0 p q) := by
  generalize hR : x (ix3 0 p q) = R
  pointwise
  exact hR

/-- An entry of the transposed weights. -/
theorem weights_entry (x : FVec Ideal S1x2048x11296 .f32) (p : Fin 11296) (q : Fin 2048) :
    transpose S11296x2048 [1, 0] (shapeCast S2048x11296 x shapeCasts_S1x2048x11296_S2048x11296)
      transposes_S2048x11296_S11296x2048_1_0 (ix2 p q) = x (ix3 0 q p) := by
  generalize hR : x (ix3 0 q p) = R
  pointwise
  exact hR

variable (m : (ℓ : Loc nD τ sig) → Buf (Elt Ideal) ℓ)

/-- The block indices of the windows that the two results read or write, at every point. -/
theorem idx : ∀ t : Fin cfg0.N, win0_0.index t = ![t.val, 0] ∧ win0_1.index t = ![0, 0] ∧ win0_2.index t = ![32, 0]
    ∧ win0_8.index t = ![t.val, 0] ∧ win0_9.index t = ![0, t.val] ∧ t.val < 32 ∧ win0_4.index t = ![0, 0] ∧ win0_5.index t = ![0, 0] :=
  (by decide +kernel : ∀ t : Fin grid0.N, _)

/-- The rows before the first point: the input without its unit axis. -/
theorem V_rows (c : Dev nD) : V m c main_v0
    = shapeCast S8192x2048 (m ((c : Thread nD τ).loc main_arg0)) shapeCasts_S1x8192x2048_S8192x2048 := by
  rfl

/-- The scales before the first point. -/
theorem V_scales (c : Dev nD) : V m c main_v6
    = shapeCast S1x2048 (shapeCast S2048 (m ((c : Thread nD τ).loc main_arg1)) shapeCasts_S1x2048_S2048) shapeCasts_S2048_S1x2048 := by
  rfl

/-- The transposed weights before the first point. -/
theorem V_weights (c : Dev nD) : V m c main_v3
    = transpose S11296x2048 [1, 0] (shapeCast S2048x11296 (m ((c : Thread nD τ).loc main_arg2)) shapeCasts_S1x2048x11296_S2048x11296)
        transposes_S2048x11296_S11296x2048_1_0 := by
  unfold V
  after_results
  try rfl

/-- An entry of the rows before the first point. -/
theorem V_rows_at (c : Dev nD) (p : Fin 8192) (q : Fin 2048) :
    (V m c main_v0 : S8192x2048.Idx → EReal) (ix2 p q) = m ((c : Thread nD τ).loc main_arg0) (ix3 0 p q) := by
  rw [V_rows]
  exact rows_entry _ p q

/-- An entry of the scales before the first point. -/
theorem V_scales_at (c : Dev nD) (p : Fin 1) (q : Fin 2048) :
    (V m c main_v6 : S1x2048.Idx → EReal) (ix2 p q) = m ((c : Thread nD τ).loc main_arg1) (ix2 0 q) := by
  rw [V_scales]
  generalize m ((c : Thread nD τ).loc main_arg1) = x
  pointwise

/-- An entry of the transposed weights before the first point. -/
theorem V_weights_at (c : Dev nD) (p : Fin 11296) (q : Fin 2048) :
    (V m c main_v3 : S11296x2048.Idx → EReal) (ix2 p q) = m ((c : Thread nD τ).loc main_arg2) (ix3 0 q p) := by
  rw [V_weights]
  exact weights_entry _ p q

/-- The window of the gate columns at a point, read in the weights. -/
theorem wblk (c : Dev nD) (t : Fin cfg0.N) (y0 : Fin 128) (y1 : Fin 2048) :
    X0_2 m c t (ix2 y0 y1) = m ((c : Thread nD τ).loc main_arg2) (ix3 0 y1 ⟨4096 + y0.val, by omega⟩) := by
  unfold X0_2 Pipeline.Window.fill
  rw [dif_pos (moved0_2 t _)]
  generalize hy : (fun a => (⟨(ix2 y0 y1 a).val, _⟩ : Fin _)) = y
  have e0 : (((win0_2.blk t).view.emb y 0 : Fin _) : ℕ) = 4096 + y0.val :=
    (win0_2.rect_emb_val t y 0).trans (by rw [(idx t).2.2.1, ← hy]; rfl)
  have e1 : (((win0_2.blk t).view.emb y 1 : Fin _) : ℕ) = y1.val :=
    (win0_2.rect_emb_val t y 1).trans (by rw [(idx t).2.2.1, ← hy]; exact (congrArg (· + _) (Nat.zero_mul _)).trans (Nat.zero_add _))
  have e : (win0_2.blk t).view.emb y = ix2 ⟨4096 + y0.val, by omega⟩ y1 :=
    (eq_ix2 (n0 := 11296) (n1 := 2048) _).trans (congrArg₂ ix2 (Fin.ext e0) (Fin.ext e1))
  exact (congrArg (V m c main_v3 : S11296x2048.Idx → EReal) e).trans (V_weights_at m c _ y1)

/-- The rows' window at a point, read in the layer's input. -/
theorem xblk (c : Dev nD) (t : Fin cfg0.N) (a : Fin 256) (b : Fin 2048) :
    iblk m c 0 t (ix2 a b) = m ((c : Thread nD τ).loc main_arg0)
      (ix3 0 ⟨256 * t.val + a.val, by have := (idx t).2.2.2.2.2.1; omega⟩ b) := by
  have e0 : (((win0_0.blk t).view.emb (ix2 a b) 0 : Fin _) : ℕ) = 256 * t.val + a.val :=
    (win0_0.rect_emb_val t _ 0).trans (by rw [(idx t).1]; exact congrArg (· + _) (Nat.mul_comm _ _))
  have e1 : (((win0_0.blk t).view.emb (ix2 a b) 1 : Fin _) : ℕ) = b.val :=
    (win0_0.rect_emb_val t _ 1).trans (by rw [(idx t).1]; exact (congrArg (· + _) (Nat.zero_mul _)).trans (Nat.zero_add _))
  have e : (win0_0.blk t).view.emb (ix2 a b) = ix2 ⟨256 * t.val + a.val, by have := (idx t).2.2.2.2.2.1; omega⟩ b :=
    (eq_ix2 (n0 := 8192) (n1 := 2048) _).trans (congrArg₂ ix2 (Fin.ext e0) (Fin.ext e1))
  exact (congrArg (V m c main_v0 : S8192x2048.Idx → EReal) e).trans (V_rows_at m c _ b)

/-- The scales' window at a point, read in the scales. -/
theorem sblk (c : Dev nD) (t : Fin cfg0.N) (b : Fin 2048) :
    iblk m c 1 t (ix2 0 b) = m ((c : Thread nD τ).loc main_arg1) (ix2 0 b) := by
  have e1 : (((win0_1.blk t).view.emb (ix2 (0 : Fin 1) b) 1 : Fin _) : ℕ) = b.val :=
    (win0_1.rect_emb_val t _ 1).trans (by rw [(idx t).2.1]; exact (congrArg (· + _) (Nat.zero_mul _)).trans (Nat.zero_add _))
  have e : (win0_1.blk t).view.emb (ix2 (0 : Fin 1) b) = ix2 0 b :=
    (eq_ix2 (n0 := 1) (n1 := 2048) _).trans (congrArg₂ ix2 (Subsingleton.elim _ _) (Fin.ext e1))
  exact (congrArg (V m c main_v6 : S1x2048.Idx → EReal) e).trans (V_scales_at m c _ b)

/-- At the first point the kernel fills the first scratch with the gate columns of the weights. -/
theorem store_A (c : Dev nD) (t : Fin cfg0.N) (h : t.val % 32 = 0) (y) :
    (outsAt0 m c t.val t.isLt).2.2.2.2.1 y = X0_2 m c t y := by
  rw [outsAt0_A m c t h]
  frame_out
  pointwise [k0_pay3]

/-- At the other points the scratch stays. -/
theorem hold_B (c : Dev nD) (t : Fin cfg0.N) (h : ¬t.val % 32 = 0) (y) :
    (outsAt0 m c t.val t.isLt).2.2.2.2.1 y
      = (outsAt0 m c (t.val - 1) (Nat.lt_of_le_of_lt (Nat.sub_le _ _) t.isLt)).2.2.2.2.1 y := by
  rw [outsAt0_B m c t h]
  rfl

/-- So at every point the scratch holds the gate columns. -/
theorem scratch_eq (c : Dev nD) (t : Fin cfg0.N) (y) :
    (outsAt0 m c t.val t.isLt).2.2.2.2.1 y = X0_2 m c ⟨32 * (t.val / 32), Pipeline.run_start_lt t⟩ y :=
  Pipeline.eq_of_write_hold_apply (fun n hn => (outsAt0 m c n hn).2.2.2.2.1) 32 (fun t => X0_2 m c t)
    (store_A m c) (hold_B m c) t y

/-- The normalized rows that a point stores. -/
theorem point_h (c : Dev nD) (t : Fin cfg0.N) (a : Fin 256) (b : Fin 2048) (r : Fin 8192) (hr : r.val = 256 * t.val + a.val) :
    k0_pay5 (iblk m c 0 t) (iblk m c 1 t) (ix2 a b)
      = Cert.Prologue.hrow (m ((c : Thread nD τ).loc main_arg0)) (m ((c : Thread nD τ).loc main_arg1)) r b := by
  refine (payload_h _ _ a b).trans ?_
  refine congrArg₂ (fun r s => Cert.Merge.normed r s b) (funext fun k => (xblk m c t a k).trans ?_) (sblk m c t b)
  exact congrArg (fun r => m ((c : Thread nD τ).loc main_arg0) (ix3 0 r k)) (Fin.ext hr.symm)

/-- The gates' block at a point, of the scratch and the point's blocks. -/
theorem out_row (c : Dev nD) (t : Fin cfg0.N) :
    (outsAt0 m c t.val t.isLt).2.2.1
      = k0_pay1 (k0_pay11 (k0_pay10 (iblk m c 0 t) (iblk m c 1 t) ((outsAt0 m c t.val t.isLt).2.2.2.2.1)))
          (k0_pay12 (k0_pay7 (iblk m c 0 t) (iblk m c 1 t) ((outsAt0 m c t.val t.isLt).2.2.2.2.1)) (k0_pay8 (iblk m c 4 t)) (k0_pay9 (iblk m c 5 t)))
          (k0_pay16 colIota k0_pay13 k0_pay14 k0_pay15)
          (k0_pay17 (k0_pay12 (k0_pay7 (iblk m c 0 t) (iblk m c 1 t) ((outsAt0 m c t.val t.isLt).2.2.2.2.1)) (k0_pay8 (iblk m c 4 t))
            (k0_pay9 (iblk m c 5 t))) rowIota colIota k0_pay13 k0_pay14 k0_pay15) (k0_pay18 (F := Ideal)) (k0_pay19 (F := Ideal)) := by
  by_cases h : t.val % 32 = 0
  · rw [outsAt0_A m c t h]
    frame_out
  · rw [funext (hold_B m c t h), outsAt0_B m c t h]
    frame_out
    rw [Idealize.ShloMosaic.read_unread_whole]

/-- The transposed sums' block at a point. -/
theorem out_cols (c : Dev nD) (t : Fin cfg0.N) :
    (outsAt0 m c t.val t.isLt).2.2.2.1
      = k0_pay2 (k0_pay17 (k0_pay12 (k0_pay7 (iblk m c 0 t) (iblk m c 1 t) ((outsAt0 m c t.val t.isLt).2.2.2.2.1)) (k0_pay8 (iblk m c 4 t))
            (k0_pay9 (iblk m c 5 t))) rowIota colIota k0_pay13 k0_pay14 k0_pay15) := by
  by_cases h : t.val % 32 = 0
  · rw [outsAt0_A m c t h]
    frame_out
  · rw [funext (hold_B m c t h), outsAt0_B m c t h]
    frame_out
    rw [Idealize.ShloMosaic.read_unread_whole]

/-- A head's parameters as the call gets them, padded to 128 lanes. -/
def padded (v : FVec Ideal S1x8 .f32) : FVec Ideal S1x128 .f32 :=
  shapeCast S1x128 (pad S128 ![8] ![112] ![0] (shapeCast S8 v shapeCasts_S1x8_S8) (sitofp .f32 (constantI S_ 32 0#32))
    pads_S8_S128_81120 h_S_) shapeCasts_S128_S1x128

/-- The padding is zero. -/
theorem pad_value : FloatOps.sitofp (F := Ideal) FTy.f32 (0#32) = (0 : EReal) := by
  show (((0#32 : BitVec 32).toInt : ℝ) : EReal) = 0
  simp

/-- A padded parameter of a lane from the eighth on. -/
theorem padded_apply (v : FVec Ideal S1x8 .f32) (l : Fin 128) (hl : 8 ≤ l.val) : padded v (ix2 0 l) = Cert.Decay.par v (l.val - 8) := by
  generalize hR : Cert.Decay.par v (l.val - 8) = R
  unfold padded
  pointwise
  rw [← hR]
  unfold Cert.Decay.par
  by_cases h : l.val - 8 < 8
  · rw [dif_pos ⟨hl, h⟩, dif_pos h]
  · rw [dif_neg fun h' => h h'.2, dif_neg h]
    exact pad_value

/-- The first parameters before the first point. -/
theorem V_alog (c : Dev nD) : V m c main_v8 = padded (m ((c : Thread nD τ).loc main_arg3)) := by
  generalize hR : padded (m ((c : Thread nD τ).loc main_arg3)) = R
  entry_read
  rw [← hR]
  unfold padded
  rfl

/-- The second parameters before the first point. -/
theorem V_dt (c : Dev nD) : V m c main_v10 = padded (m ((c : Thread nD τ).loc main_arg4)) := by
  generalize hR : padded (m ((c : Thread nD τ).loc main_arg4)) = R
  entry_read
  rw [← hR]
  unfold padded
  rfl

/-- The first parameters' window at a point. -/
theorem ablk (c : Dev nD) (t : Fin cfg0.N) (l : Fin 128) :
    iblk m c 4 t (ix2 0 l) = padded (m ((c : Thread nD τ).loc main_arg3)) (ix2 0 l) := by
  rw [← V_alog]
  unfold iblk
  generalize V m c main_v8 = v
  blk_ext [idx t]

/-- The second parameters' window at a point. -/
theorem dblk (c : Dev nD) (t : Fin cfg0.N) (l : Fin 128) :
    iblk m c 5 t (ix2 0 l) = padded (m ((c : Thread nD τ).loc main_arg4)) (ix2 0 l) := by
  rw [← V_dt]
  unfold iblk
  generalize V m c main_v10 = v
  blk_ext [idx t]

/-- The point's products with the gate columns. -/
theorem point_z (c : Dev nD) (t : Fin cfg0.N) (a : Fin 256) (l : Fin 128) (r : Fin 8192) (hr : r.val = 256 * t.val + a.val) :
    k0_pay7 (iblk m c 0 t) (iblk m c 1 t) ((outsAt0 m c t.val t.isLt).2.2.2.2.1) (ix2 a l)
      = Cert.Prologue.zrow (m ((c : Thread nD τ).loc main_arg0)) (m ((c : Thread nD τ).loc main_arg1))
          (m ((c : Thread nD τ).loc main_arg2)) r ⟨4096 + l.val, by omega⟩ := by
  refine (payload_z _ _ _ a l).trans ?_
  refine Fin.sum_fin_congr fun k => congrArg₂ (fun u v : EReal => u * v) (point_h m c t a k r hr) ?_
  exact (scratch_eq m c t _).trans (wblk m c _ l k)

/-- The point's log decays. -/
def rateBlk (c : Dev nD) (t : Fin cfg0.N) : FVec Ideal S256x128 .f32 :=
  k0_pay12 (k0_pay7 (iblk m c 0 t) (iblk m c 1 t) ((outsAt0 m c t.val t.isLt).2.2.2.2.1)) (k0_pay8 (iblk m c 4 t)) (k0_pay9 (iblk m c 5 t))

/-- None is `+∞`. -/
theorem rateBlk_ne_top (c : Dev nD) (t : Fin cfg0.N) (a : Fin 256) (l : Fin 128) : (rateBlk m c t (ix2 a l) : EReal) ≠ ⊤ := by
  have h := pay_rate (k0_pay7 (iblk m c 0 t) (iblk m c 1 t) ((outsAt0 m c t.val t.isLt).2.2.2.2.1)) (iblk m c 4 t) (iblk m c 5 t) a l
  exact fun e => Cert.Decay.rate_ne_top _ _ _ (h.symm.trans e)

/-- From the eighth lane on they are the rows' log decays. -/
theorem rateBlk_eq (c : Dev nD) (t : Fin cfg0.N) (a : Fin 256) (l : Fin 128) (q : Fin 112) (hq : l.val = 8 + q.val) (r : Fin 8192)
    (hr : r.val = 256 * t.val + a.val) :
    rateBlk m c t (ix2 a l) = Cert.Decay.rates (m ((c : Thread nD τ).loc main_arg0)) (m ((c : Thread nD τ).loc main_arg1))
      (m ((c : Thread nD τ).loc main_arg2)) (m ((c : Thread nD τ).loc main_arg3)) (m ((c : Thread nD τ).loc main_arg4)) r q := by
  have e : l.val - 8 = q.val := by omega
  refine (pay_rate _ (iblk m c 4 t) (iblk m c 5 t) a l).trans ?_
  unfold Cert.Decay.rates
  rw [ablk m c t l, dblk m c t l, padded_apply _ l (by omega), padded_apply _ l (by omega), e, point_z m c t a l r hr]
  refine congrArg (fun k => Cert.Decay.rate _ _ (Cert.Prologue.zrow _ _ _ r k)) (Fin.ext ?_)
  show 4096 + l.val = 4104 + q.val
  omega

/-- The point's sums up to each row. -/
def cumBlk (c : Dev nD) (t : Fin cfg0.N) : FVec Ideal S256x128 .f32 :=
  k0_pay17 (rateBlk m c t) rowIota colIota k0_pay13 k0_pay14 k0_pay15

/-- They are the rows' sums within their chunks. -/
theorem cumBlk_eq (c : Dev nD) (t : Fin cfg0.N) (a : Fin 256) (l : Fin 128) (q : Fin 112) (hq : l.val = 8 + q.val) (r : Fin 8192)
    (hr : r.val = 256 * t.val + a.val) :
    cumBlk m c t (ix2 a l) = Cert.Decay.cum (m ((c : Thread nD τ).loc main_arg0)) (m ((c : Thread nD τ).loc main_arg1))
      (m ((c : Thread nD τ).loc main_arg2)) (m ((c : Thread nD τ).loc main_arg3)) (m ((c : Thread nD τ).loc main_arg4)) r q := by
  refine (pay_cum (rateBlk m c t) a l fun k => rateBlk_ne_top m c t k l).trans ?_
  unfold Cert.Decay.cum
  refine Finset.sum_congr rfl fun j _ => ?_
  have e : a.val % 64 = r.val % 64 := by omega
  rw [e]
  refine congrArg (fun z : EReal => if j.val ≤ r.val % 64 then z else 0) ?_
  refine rateBlk_eq m c t _ l q hq _ ?_
  show 64 * (r.val / 64) + j.val = 256 * t.val + (64 * (a.val / 64) + j.val)
  omega

/-- A row of the gates at a point. -/
theorem point_row (c : Dev nD) (t : Fin cfg0.N) (a : Fin 256) (l : Fin 128) (r : Fin 8192) (hr : r.val = 256 * t.val + a.val) :
    (outsAt0 m c t.val t.isLt).2.2.1 (ix2 a l) = Cert.Decay.row (m ((c : Thread nD τ).loc main_arg0)) (m ((c : Thread nD τ).loc main_arg1))
      (m ((c : Thread nD τ).loc main_arg2)) (m ((c : Thread nD τ).loc main_arg3)) (m ((c : Thread nD τ).loc main_arg4)) r l := by
  rw [out_row]
  refine (pay_row _ (rateBlk m c t) (cumBlk m c t) a l (rateBlk_ne_top m c t)).trans ?_
  unfold Cert.Decay.row
  by_cases h8 : l.val < 8
  · rw [if_pos h8, dif_pos h8]
    exact (pay_gate _ _ _ a l).trans (congrArg Cert.Decay.gate (point_z m c t a l r hr))
  · by_cases h16 : l.val < 16
    · rw [if_neg h8, dif_neg h8, if_pos h16, dif_pos h16]
      refine cumBlk_eq m c t a l _ ?_ r hr
      show l.val = 8 + (l.val - 8)
      omega
    · rw [if_neg h8, dif_neg h8, if_neg h16, dif_neg h16]
      refine Finset.sum_congr rfl fun j _ => ?_
      refine rateBlk_eq m c t _ _ _ ?_ _ ?_
      · show (l.val + 128 - 8) % 128 = 8 + (l.val - 16)
        omega
      · show 64 * (r.val / 64) + j.val = 256 * t.val + (64 * (a.val / 64) + j.val)
        omega

/-- The third result array after the run: the rows of the gates. -/
theorem final_row (c : Dev nD) : (dats m 0 c).arrAt 8 cfg0.N = fun i : S8192x128.Idx =>
    Cert.Decay.row (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 8 _ (by decide +kernel) fun t _ y => ?_
  have e0 : (((win0_8.blk t).view.emb y 0 : Fin _) : ℕ) = 256 * t.val + (y 0).val :=
    (win0_8.rect_emb_val t y 0).trans (by rw [(idx t).2.2.2.1]; exact congrArg (· + _) (Nat.mul_comm _ _))
  have e1 : ((win0_8.blk t).view.emb y 1 : Fin 128) = y 1 :=
    Fin.ext ((win0_8.rect_emb_val t y 1).trans (by rw [(idx t).2.2.2.1]; exact (congrArg (· + _) (Nat.zero_mul _)).trans (Nat.zero_add _)))
  blk_simp
  rw [after0_8]
  rw [eq_ix2 (n0 := 256) (n1 := 128) y]
  refine (point_row m c t (y 0) (y 1) _ e0).trans ?_
  exact congrArg (Cert.Decay.row (m ((c : Thread nD τ).loc main_arg0)) (m ((c : Thread nD τ).loc main_arg1))
    (m ((c : Thread nD τ).loc main_arg2)) (m ((c : Thread nD τ).loc main_arg3)) (m ((c : Thread nD τ).loc main_arg4)) _) e1.symm

/-- The fourth result array after the run: the eight heads' sums up to each row, a head to a row. -/
theorem final_cols (c : Dev nD) : (dats m 0 c).arrAt 9 cfg0.N = fun i : S8x8192.Idx =>
    Cert.Decay.cum (m ((c : Thread nD τ).loc main_arg0)) (m ((c : Thread nD τ).loc main_arg1)) (m ((c : Thread nD τ).loc main_arg2))
      (m ((c : Thread nD τ).loc main_arg3)) (m ((c : Thread nD τ).loc main_arg4)) (i 1)
      ⟨(i 0).val, by have : (i 0).val < 8 := (i 0).isLt; omega⟩ := by
  refine (dats m 0 c).arrAt_eq_of_covers 9 _ (by decide +kernel) fun t _ y => ?_
  have e0 : (((win0_9.blk t).view.emb y 0 : Fin 8) : ℕ) = (y 0).val :=
    (win0_9.rect_emb_val t y 0).trans (by rw [(idx t).2.2.2.2.1]; exact (congrArg (· + _) (Nat.zero_mul _)).trans (Nat.zero_add _))
  have e1 : (((win0_9.blk t).view.emb y 1 : Fin 8192) : ℕ) = 256 * t.val + (y 1).val :=
    (win0_9.rect_emb_val t y 1).trans (by rw [(idx t).2.2.2.2.1]; exact congrArg (· + _) (Nat.mul_comm _ _))
  blk_simp
  rw [after0_9, out_cols]
  rw [eq_ix2 (n0 := 8) (n1 := 256) y]
  refine (pay_cols _ (y 0) (y 1)).trans ?_
  refine cumBlk_eq m c t (y 1) _ _ ?_ _ e1
  show 8 + (y 0).val = 8 + (win0_9.index t 0 * 8 + (y 0).val)
  rw [(idx t).2.2.2.2.1]
  exact congrArg (8 + ·) ((congrArg (· + _) (Nat.zero_mul _)).trans (Nat.zero_add _)).symm

end Cert.Kernel8Ideal.Prologue
-- ==== Proof.DecayRef.lean ====
/- The reference of the decay gates, entry by entry. -/
module

public import proofs.«01_k».proof.Proof.Gen.Reference8Ideal.Run
public import proofs.«01_k».proof.Proof.Decay

@[expose] public section

set_option maxRecDepth 16384

noncomputable section

open Idealize.ShloMosaic

namespace Cert.Reference8Ideal
open Cert.Reference8Ideal.Gen

/-- The reference's normalized rows, of the rows. -/
def refH (x : FVec Ideal S8192x2048 .f32) (s : FVec Ideal S1x2048 .f32) : FVec Ideal S8192x2048 .f32 :=
    mulf (mulf x (broadcastInDim S8192x2048 ![0, 1] bcast_S8192x1_S8192x2048_0_1 (Host.rsqrt (addf (Host.divf
    (broadcastInDim S8192x1 ![0] bcast_S8192_S8192x1_0 (Host.reduceAdd (mulf x x) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim
    S8192x2048 ![0, 1] bcast_S1x2048_S8192x2048_0_1 (broadcastInDim S1x2048 ![1] bcast_S2048_S1x2048_1 (shapeCast _ s
    shapeCasts_S1x2048_S2048)))

/-- The normalized rows, entry by entry. -/
theorem refH_apply (x : FVec Ideal S8192x2048 .f32) (s : FVec Ideal S1x2048 .f32) (r : Fin 8192) (c : Fin 2048) :
    refH x s (ix2 r c) = Cert.Merge.normed (fun k => x (ix2 r k)) (s (ix2 0 c)) c := by
  generalize hR : Cert.Merge.normed (fun k => x (ix2 r k)) (s (ix2 0 c)) c = R
  pointwise [refH]
  rw [← hR]
  unfold Cert.Merge.normed
  rfl

/-- An entry of the rows without their unit axis. -/
theorem rows_entry (x : FVec Ideal S1x8192x2048 .f32) (p : Fin 8192) (q : Fin 2048) :
    shapeCast S8192x2048 x shapeCasts_S1x8192x2048_S8192x2048 (ix2 p q) = x (ix3 0 p q) := by
  generalize hR : x (ix3 0 p q) = R
  pointwise
  exact hR

/-- The normalized rows of the layer's input, entry by entry. -/
theorem refH_rows (x : FVec Ideal S1x8192x2048 .f32) (s : FVec Ideal S1x2048 .f32) (r : Fin 8192) (c : Fin 2048) :
    refH (shapeCast _ x shapeCasts_S1x8192x2048_S8192x2048) s (ix2 r c) = Cert.Prologue.hrow x s r c := by
  rw [refH_apply]
  exact congrArg (fun f => Cert.Merge.normed f (s (ix2 0 c)) c) (funext fun k => rows_entry x r k)

/-- The reference's product of the normalized rows with the gate columns. -/
def refZ (x : FVec Ideal S1x8192x2048 .f32) (s : FVec Ideal S1x2048 .f32) (W : FVec Ideal S1x2048x11296 .f32) : FVec Ideal S8192x120 .f32 :=
  extractStridedSlice S8192x120 ![0, 4096] (Host.dotGeneral dot_S8192x2048_S2048x11296_S8192x11296_1_0_0_1_n_n none
    (refH (shapeCast _ x shapeCasts_S1x8192x2048_S8192x2048) s) (shapeCast S2048x11296 W shapeCasts_S1x2048x11296_S2048x11296))
    slices_S8192x11296_S8192x120_0_4096

/-- The product, entry by entry. -/
theorem refZ_apply (x : FVec Ideal S1x8192x2048 .f32) (s : FVec Ideal S1x2048 .f32) (W : FVec Ideal S1x2048x11296 .f32) (r : Fin 8192)
    (l : Fin 120) : refZ x s W (ix2 r l) = Cert.Prologue.zrow x s W r ⟨4096 + l.val, by omega⟩ := by
  unfold refZ Cert.Prologue.zrow
  simp only [← refH_rows]
  generalize refH (shapeCast _ x shapeCasts_S1x8192x2048_S8192x2048) s = H
  generalize hR : (∑ k : Fin 2048, H (ix2 r k) * W (ix3 0 k _)) = R
  pointwise
  exact hR

/-- A head's parameters padded to 112 lanes. -/
def padded (v : FVec Ideal S1x8 .f32) : FVec Ideal S112 .f32 :=
  pad S112 ![0] ![104] ![0] (shapeCast _ v shapeCasts_S1x8_S8) (sitofp .f32 (constantI S_ 32 0#32)) pads_S8_S112_01040 h_S_

/-- The padding is zero. -/
theorem pad_value : FloatOps.sitofp (F := Ideal) FTy.f32 (0#32) = (0 : EReal) := by
  show (((0#32 : BitVec 32).toInt : ℝ) : EReal) = 0
  simp

/-- A padded parameter. -/
theorem padded_apply (v : FVec Ideal S1x8 .f32) (l : Fin 112) : padded v (ix1 l) = Cert.Decay.par v l.val := by
  generalize hR : Cert.Decay.par v l.val = R
  unfold padded
  pointwise
  rw [← hR]
  unfold Cert.Decay.par
  by_cases h : l.val < 8
  · rw [dif_pos h, dif_pos h]
  · rw [dif_neg h, dif_neg h]
    exact pad_value

/-- The shifted products of the decay lanes. -/
def refY (z : FVec Ideal S8192x120 .f32) (d : FVec Ideal S112 .f32) : FVec Ideal S8192x112 .f32 :=
  addf (extractStridedSlice S8192x112 ![0, 8] z slices_S8192x120_S8192x112_0_8)
    (broadcastInDim S8192x112 ![0, 1] bcast_S1x112_S8192x112_0_1 (broadcastInDim S1x112 ![1] bcast_S112_S1x112_1 d))

/-- The reference's log decays, of the shifted products. -/
def refG (y : FVec Ideal S8192x112 .f32) (a : FVec Ideal S112 .f32) : FVec Ideal S8192x112 .f32 :=
  mulf (broadcastInDim S8192x112 ![0, 1] bcast_S1x112_S8192x112_0_1 (broadcastInDim S1x112 ![1] bcast_S112_S1x112_1 (Host.negf (Host.exp a))))
    (select
      (cmpf .une (subf y (broadcastInDim S8192x112 ![] bcast_S_S8192x112 (constant S_ .f32 0x00000000#32)))
        (subf y (broadcastInDim S8192x112 ![] bcast_S_S8192x112 (constant S_ .f32 0x00000000#32))))
      (addf y (broadcastInDim S8192x112 ![] bcast_S_S8192x112 (constant S_ .f32 0x00000000#32)))
      (addf (maximumf y (broadcastInDim S8192x112 ![] bcast_S_S8192x112 (constant S_ .f32 0x00000000#32)))
        (Host.log1p (Host.exp (Host.negf (Host.absf (subf y (broadcastInDim S8192x112 ![] bcast_S_S8192x112 (constant S_ .f32 0x00000000#32)))))))))

/-- The log decays, entry by entry. -/
theorem refG_apply (z : FVec Ideal S8192x120 .f32) (a d : FVec Ideal S112 .f32) (r : Fin 8192) (l : Fin 112) :
    refG (refY z d) a (ix2 r l) = Cert.Decay.rate (a (ix1 l)) (d (ix1 l)) (z (ix2 r ⟨8 + l.val, by omega⟩)) := by
  unfold Cert.Decay.rate Cert.Decay.softplus
  have hy : refY z d (ix2 r l) = (z (ix2 r ⟨8 + l.val, by omega⟩) + d (ix1 l) : EReal) := by
    pointwise [refY]
  rw [← hy]
  generalize refY z d = y
  pointwise [refG]
  rw [if_neg fun h => h rfl]
  rfl

/-- The reference's running sums, of the log decays. -/
def refC (g : FVec Ideal S8192x112 .f32) : FVec Ideal S112x128x64 .f32 :=
  Host.reduceWindowAdd ![1, 1, 64] ![1, 1, 1] ![0, 0, 63] ![0, 0, 0]
    (shapeCast _ (transpose S112x8192 [1, 0] g transposes_S8192x112_S112x8192_1_0) shapeCasts_S112x8192_S112x128x64)
    (broadcastInDim S_ ![] bcast_S_S_ (constant S_ .f32 0x00000000#32)) reduceWindows_S112x128x64_S112x128x64_w1s1p0_0_w1s1p0_0_w64s1p63_0 h_S_

/-- The running sums, entry by entry. -/
theorem refC_apply (g : FVec Ideal S8192x112 .f32) (l : Fin 112) (n : Fin 128) (p : Fin 64) :
    refC g (ix3 l n p) = ∑ j : Fin 64, if j.val ≤ p.val then (g (ix2 ⟨64 * n.val + j.val, by omega⟩ l) : EReal) else 0 := by
  unfold refC
  refine (Cert.Decay.running _ _ _ _ ?_ l n p).trans ?_
  · pointwise
  · refine Finset.sum_congr rfl fun j _ => congrArg (fun z : EReal => if j.val ≤ p.val then z else 0) ?_
    generalize hR : g (ix2 _ l) = R
    pointwise
    rw [← hR]
    exact congrArg (fun r => g (ix2 r l)) (Fin.ext (congrArg (· + j.val) (Nat.mul_comm _ _)))

/-- The eight heads' running sums, a head to a row. -/
def refCols (C : FVec Ideal S112x128x64 .f32) : FVec Ideal S8x8192 .f32 :=
  extractStridedSlice S8x8192 ![0, 0] (shapeCast _ C shapeCasts_S112x128x64_S112x8192) slices_S112x8192_S8x8192_0_0

/-- The heads' running sums, entry by entry. -/
theorem refCols_apply (C : FVec Ideal S112x128x64 .f32) (j : Fin 8) (r : Fin 8192) :
    refCols C (ix2 j r) = C (ix3 ⟨j.val, by omega⟩ ⟨r.val / 64, by omega⟩ ⟨r.val % 64, by omega⟩) := by
  generalize hR : C (ix3 _ _ _) = R
  pointwise [refCols]
  exact hR

/-- The reference's rows of the gates. -/
def refRow (z : FVec Ideal S8192x120 .f32) (C : FVec Ideal S112x128x64 .f32) : FVec Ideal S8192x128 .f32 :=
  concatenate S8192x128 1 [⟨S8192x8, Host.divf (broadcastInDim S8192x8 ![] bcast_S_S8192x8 (constant S_ .f32 0x3F800000#32))
      (addf (broadcastInDim S8192x8 ![] bcast_S_S8192x8 (constant S_ .f32 0x3F800000#32)) (Host.exp (Host.negf
        (extractStridedSlice S8192x8 ![0, 0] z slices_S8192x120_S8192x8_0_0))))⟩,
    ⟨S8192x8, transpose S8192x8 [1, 0] (refCols C) transposes_S8x8192_S8192x8_1_0⟩,
    ⟨S8192x112, transpose S8192x112 [1, 0] (shapeCast S112x8192 (broadcastInDim S112x128x64 ![0, 1, 2] bcast_S112x128x1_S112x128x64_0_1_2
      (extractStridedSlice S112x128x1 ![0, 0, 63] C slices_S112x128x64_S112x128x1_0_0_63)) shapeCasts_S112x128x64_S112x8192)
      transposes_S112x8192_S8192x112_1_0⟩] concatenates_S8192x8_S8192x8_S8192x112_S8192x128_d1

/-- The rows of the gates, entry by entry. -/
theorem refRow_apply (z : FVec Ideal S8192x120 .f32) (C : FVec Ideal S112x128x64 .f32) (r : Fin 8192) (c : Fin 128) :
    refRow z C (ix2 r c) = if h : c.val < 8 then Cert.Decay.gate (z (ix2 r ⟨c.val, by omega⟩))
      else if h' : c.val < 16 then C (ix3 ⟨c.val - 8, by omega⟩ ⟨r.val / 64, by omega⟩ ⟨r.val % 64, by omega⟩)
      else C (ix3 ⟨c.val - 16, by omega⟩ ⟨r.val / 64, by omega⟩ 63) := by
  unfold refRow
  have hB := refCols_apply C
  generalize refCols C = B at hB ⊢
  generalize hR : (if h : c.val < 8 then Cert.Decay.gate (z (ix2 r ⟨c.val, _⟩)) else _ : EReal) = R
  pointwise
  rw [← hR]
  unfold Cert.Decay.gate
  by_cases h8 : c.val < 8
  · rw [dif_pos h8, dif_pos h8]
  · by_cases h16 : c.val < 16
    · rw [dif_neg h8, dif_neg h8, dif_pos (show c.val - 8 < 8 by omega), dif_pos h16]
      exact hB _ r
    · rw [dif_neg h8, dif_neg h8, dif_neg (show ¬c.val - 8 < 8 by omega), dif_neg h16]
      exact congrArg (fun l => C (ix3 l _ 63)) (Fin.ext (Nat.sub_sub c.val 8 8))

section results
variable (x : FVec Ideal S1x8192x2048 .f32) (s : FVec Ideal S1x2048 .f32) (W : FVec Ideal S1x2048x11296 .f32) (al dt : FVec Ideal S1x8 .f32)

/-- The reference's log decays of the layer's input. -/
def refRates : FVec Ideal S8192x112 .f32 := refG (refY (refZ x s W) (padded dt)) (padded al)

/-- They are the rows' log decays. -/
theorem refRates_apply (r : Fin 8192) (l : Fin 112) : refRates x s W al dt (ix2 r l) = Cert.Decay.rates x s W al dt r l := by
  unfold refRates Cert.Decay.rates
  rw [refG_apply, padded_apply, padded_apply, refZ_apply]
  refine congrArg (fun k => Cert.Decay.rate _ _ (Cert.Prologue.zrow x s W r k)) (Fin.ext ?_)
  show 4096 + (8 + l.val) = 4104 + l.val
  omega

/-- The reference's running sums at a row are the sums within the row's chunk. -/
theorem refCum (r : Fin 8192) (l : Fin 112) :
    refC (refRates x s W al dt) (ix3 l ⟨r.val / 64, by omega⟩ ⟨r.val % 64, by omega⟩) = Cert.Decay.cum x s W al dt r l := by
  refine (refC_apply _ _ _ _).trans ?_
  unfold Cert.Decay.cum
  exact Finset.sum_congr rfl fun j _ => congrArg (fun z : EReal => if j.val ≤ r.val % 64 then z else 0) (refRates_apply x s W al dt _ l)

/-- At a chunk's last row they are the sums over the chunk. -/
theorem refLast (r : Fin 8192) (l : Fin 112) :
    refC (refRates x s W al dt) (ix3 l ⟨r.val / 64, by omega⟩ 63) = Cert.Decay.last x s W al dt r l := by
  refine (refC_apply _ _ _ _).trans ?_
  unfold Cert.Decay.last
  refine Finset.sum_congr rfl fun j _ => ?_
  rw [if_pos (show j.val ≤ ((63 : Fin 64) : ℕ) by show j.val ≤ 63; omega)]
  exact refRates_apply x s W al dt _ l

/-- The reference's first result. -/
theorem rows_eq (i : S8192x128.Idx) :
    refRow (refZ x s W) (refC (refRates x s W al dt)) i = Cert.Decay.row x s W al dt (i 0) (i 1) := by
  rw [eq_ix2 (n0 := 8192) (n1 := 128) i]
  refine (refRow_apply _ _ (i 0) (i 1)).trans ?_
  show _ = Cert.Decay.row x s W al dt (i 0) (i 1)
  unfold Cert.Decay.row
  by_cases h8 : (i 1).val < 8
  · rw [dif_pos h8, dif_pos h8]
    exact congrArg Cert.Decay.gate (refZ_apply x s W (i 0) ⟨(i 1).val, by omega⟩)
  · by_cases h16 : (i 1).val < 16
    · rw [dif_neg h8, dif_neg h8, dif_pos h16, dif_pos h16]
      exact refCum x s W al dt (i 0) _
    · rw [dif_neg h8, dif_neg h8, dif_neg h16, dif_neg h16]
      exact refLast x s W al dt (i 0) _

/-- The reference's second result. -/
theorem cols_eq (i : S8x8192.Idx) :
    refCols (refC (refRates x s W al dt)) i
      = Cert.Decay.cum x s W al dt (i 1) ⟨(i 0).val, by have : (i 0).val < 8 := (i 0).isLt; omega⟩ := by
  rw [eq_ix2 (n0 := 8) (n1 := 8192) i]
  exact (refCols_apply _ (i 0) (i 1)).trans (refCum x s W al dt (i 1) _)

end results

end Cert.Reference8Ideal
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.ProjA
public import proofs.«01_k».proof.Proof.ProjB
public import proofs.«01_k».proof.Proof.ProjMix
public import proofs.«01_k».proof.Proof.Merge
public import proofs.«01_k».proof.Proof.Prologue
public import proofs.«01_k».proof.Proof.Ref
public import proofs.«01_k».proof.Proof.RouteKernel
public import proofs.«01_k».proof.Proof.RoutePre
public import proofs.«01_k».proof.Proof.RouteRef
public import proofs.«01_k».proof.Proof.RouterFinal
public import proofs.«01_k».proof.Proof.RouterPre
public import proofs.«01_k».proof.Proof.RouterRef
public import proofs.«01_k».proof.Proof.DecayKernel
public import proofs.«01_k».proof.Proof.DecayRef
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  rw [Cert.KernelIdeal.Proj.G2_eq]
  exact Cert.ReferenceIdeal.columns _ _ i

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  funext i
  rw [Cert.Kernel2Ideal.Proj.G2_eq]
  exact Cert.Reference2Ideal.columns _ _ i

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  funext i
  rw [Cert.Kernel3Ideal.Proj.G2_eq]
  exact Cert.Reference3Ideal.columns _ _ i

theorem algebraic_Kernel4Ideal_Reference4Ideal : algebraic_Kernel4Ideal_Reference4Ideal := by
  intro m ρ m' ρ' _ hagree
  refine ⟨fun c (i : Cert.Kernel4Ideal.S8192x2048.Idx) => Cert.Kernel4Ideal.Merge.X2 m c (i 0) (i 1),
    fun c (i : Cert.Kernel4Ideal.S8192x2048.Idx) => Cert.Merge.normed (Cert.Kernel4Ideal.Merge.X2 m c (i 0))
      (m ((c.tc : Thread Cert.Kernel4Ideal.nD Cert.Kernel4Ideal.τ).loc Cert.Kernel4Ideal.main_arg7) (ix2 0 (i 1))) (i 1),
    (θ_run Cert.Kernel4Ideal.defs _ _).mono (fun _ h c => ⟨(h c).1.trans (Cert.Kernel4Ideal.Merge.final_x2 m c),
      (h c).2.1.trans (Cert.Kernel4Ideal.Merge.final_h2 m c), (h c).2.2.2⟩) (Cert.Kernel4Ideal.Value.run_blocks (F := Ideal) m ρ), ?_⟩
  refine (θ_run Cert.Reference4Ideal.defs _ _).mono (fun _ h c => ⟨?_, ?_, (h c).2.2⟩) (Cert.Reference4Ideal.Value.run (F := Ideal) m' ρ')
  · rw [(h c).1]
    funext i
    simp only [hagree c]
    exact Cert.Reference4Ideal.refX2_apply _ _ _ _ _ _ _ i
  · rw [(h c).2.1]
    funext i
    unfold Cert.Reference4Ideal.Value.res_main_v40
    simp only [hagree c]
    refine (Cert.Reference4Ideal.refH2_apply (Cert.Reference4Ideal.refX2 _ _ _ _ _ _ _) _ i).trans ?_
    simp only [Cert.Reference4Ideal.refX2_apply]
    rfl

theorem algebraic_Kernel5Ideal_Reference5Ideal : algebraic_Kernel5Ideal_Reference5Ideal := by
  intro m ρ m' ρ' _ hagree
  refine ⟨_, _,
    (θ_run Cert.Kernel5Ideal.defs _ _).mono (fun _ h c => ⟨(h c).1.trans (Cert.Kernel5Ideal.Prologue.final_h m c),
      (h c).2.1.trans (Cert.Kernel5Ideal.Prologue.final_z m c), (h c).2.2.2.2⟩) (Cert.Kernel5Ideal.Value.run_blocks (F := Ideal) m ρ), ?_⟩
  refine (θ_run Cert.Reference5Ideal.defs _ _).mono (fun _ h c => ⟨?_, ?_, (h c).2.2⟩) (Cert.Reference5Ideal.Value.run (F := Ideal) m' ρ')
  · rw [(h c).1]
    funext i
    simp only [hagree c]
    exact Cert.Reference5Ideal.rounded_rows _ _ i
  · rw [(h c).2.1]
    funext i
    simp only [hagree c]
    exact Cert.Reference5Ideal.columns_rows _ _ _ i

theorem algebraic_Kernel6Ideal_Reference6Ideal [Cert.Pre_finite_logits.Facts] :
    algebraic_Kernel6Ideal_Reference6Ideal_pre_finite_logits := by
  intro m ρ m' ρ' hpre hagree
  refine ⟨_, (θ_run Cert.Kernel6Ideal.defs _ _).mono (fun _ h c => ⟨(h c).2.1.trans (Cert.Kernel6Ideal.Route.final m c),
    (h c).2.2.2⟩) (Cert.Kernel6Ideal.Value.run_blocks (F := Ideal) m ρ), ?_⟩
  refine (θ_run Cert.Reference6Ideal.defs _ _).mono (fun _ h c => ⟨?_, (h c).2⟩) (Cert.Reference6Ideal.Value.run (F := Ideal) m' ρ')
  choose z hz using Cert.Pre_finite_logits.real_of_finite _ (hpre c)
  rw [(h c).1, Cert.Reference6Ideal.Route.res_eq, hagree c]
  funext i
  rw [eq_ix2 (n0 := 8192) (n1 := 128) i]
  exact (Cert.Reference6Ideal.Route.gates_real _ z hz (i 0) (i 1)).trans (Cert.Kernel6Ideal.Route.gates_real _ z hz (i 0) (i 1)).symm

theorem algebraic_Kernel7Ideal_Reference7Ideal [Cert.Pre_finite_router.Facts] :
    algebraic_Kernel7Ideal_Reference7Ideal_pre_finite_router := by
  intro m ρ m' ρ' hpre hagree
  have hs : ∀ (c : Dev Cert.Kernel7Ideal.nD) (k : Fin 2048), ∃ z : ℝ, m ((c.tc : Thread Cert.Kernel7Ideal.nD Cert.Kernel7Ideal.τ).loc Cert.Kernel7Ideal.main_arg7) (ix2 0 k)
      = (z : EReal) := fun c k => (Cert.Pre_finite_router.reals _ _ _ _ _ _ _ _ _ _ _ _ (hpre c) k 0 0).1
  have hw : ∀ (c : Dev Cert.Kernel7Ideal.nD) (k : Fin 2048) (j : Fin 128), ∃ z : ℝ, Cert.Kernel7Ideal.Router.W m c k j = (z : EReal) := fun c =>
    Cert.Kernel7Ideal.Router.weight_real _ _
      (fun k g => (Cert.Pre_finite_router.reals _ _ _ _ _ _ _ _ _ _ _ _ (hpre c) k g 0).2.1)
      (fun k g e => (Cert.Pre_finite_router.reals _ _ _ _ _ _ _ _ _ _ _ _ (hpre c) k g e).2.2)
  refine ⟨_, (θ_run Cert.Kernel7Ideal.defs _ _).mono (fun _ h c => ⟨(h c).2.2.1.trans (Cert.Kernel7Ideal.Router.final m c (hs c) (hw c)),
    (h c).2.2.2⟩) (Cert.Kernel7Ideal.Value.run_blocks (F := Ideal) m ρ), ?_⟩
  refine (θ_run Cert.Reference7Ideal.defs _ _).mono (fun _ h c => ⟨?_, (h c).2⟩) (Cert.Reference7Ideal.Value.run (F := Ideal) m' ρ')
  rw [(h c).1]
  funext i
  rw [eq_ix2 (n0 := 128) (n1 := 8192) i]
  refine (Cert.Reference7Ideal.res_entry m' c (i 0) (i 1)).trans ?_
  simp only [hagree c]
  rfl

theorem algebraic_Kernel8Ideal_Reference8Ideal : algebraic_Kernel8Ideal_Reference8Ideal := by
  intro m ρ m' ρ' _ hagree
  refine ⟨_, _,
    (θ_run Cert.Kernel8Ideal.defs _ _).mono (fun _ h c => ⟨(h c).2.2.1.trans (Cert.Kernel8Ideal.Prologue.final_row m c),
      (h c).2.2.2.1.trans (Cert.Kernel8Ideal.Prologue.final_cols m c), (h c).2.2.2.2⟩) (Cert.Kernel8Ideal.Value.run_blocks (F := Ideal) m ρ), ?_⟩
  refine (θ_run Cert.Reference8Ideal.defs _ _).mono (fun _ h c => ⟨?_, ?_, (h c).2.2⟩) (Cert.Reference8Ideal.Value.run (F := Ideal) m' ρ')
  · rw [(h c).1]
    funext i
    unfold Cert.Reference8Ideal.Value.res_main_v49
    simp only [hagree c]
    exact Cert.Reference8Ideal.rows_eq _ _ _ _ _ i
  · rw [(h c).2.1]
    funext i
    unfold Cert.Reference8Ideal.Value.res_main_v45
    simp only [hagree c]
    exact Cert.Reference8Ideal.cols_eq _ _ _ _ _ i

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_logits.facts, Cert.Pre_finite_router.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ,
  quiescent_Reference6Ideal, fun m ρ _ => quiescent_Reference6Ideal m ρ trivial,
  fun m ρ _ => Cert.Kernel7.Gen.frame m ρ, fun m ρ _ => Cert.Kernel7Ideal.Gen.frame m ρ, fun m ρ _ => Cert.Kernel7Ideal.Gen.frame m ρ,
  quiescent_Reference7Ideal, fun m ρ _ => quiescent_Reference7Ideal m ρ trivial,
  fun m ρ _ => Cert.Kernel8.Gen.frame m ρ, fun m ρ _ => Cert.Kernel8Ideal.Gen.frame m ρ, quiescent_Reference8Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal),
  @algebraic_Kernel6Ideal_Reference6Ideal Cert.Pre_finite_logits.facts,
  (trivial : preserves_Kernel7_Kernel7Ideal),
  @algebraic_Kernel7Ideal_Reference7Ideal Cert.Pre_finite_router.facts,
  (trivial : preserves_Kernel8_Kernel8Ideal), algebraic_Kernel8Ideal_Reference8Ideal⟩

end Cert.Proof

end
